-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x2048 : Shape := ⟨2, ![4096, 2048]⟩
abbrev S128x2048 : Shape := ⟨2, ![128, 2048]⟩
abbrev S128x4096 : Shape := ⟨2, ![128, 4096]⟩
abbrev S2x512x2048 : Shape := ⟨3, ![2, 512, 2048]⟩
abbrev S32x1x128 : Shape := ⟨3, ![32, 1, 128]⟩
abbrev S32 : Shape := ⟨1, ![32]⟩
abbrev S2 : Shape := ⟨1, ![2]⟩
abbrev S_ : Shape := ⟨0, ![]⟩
abbrev S1 : Shape := ⟨1, ![1]⟩
abbrev S1x512x2048 : Shape := ⟨3, ![1, 512, 2048]⟩
abbrev S512x2048 : Shape := ⟨2, ![512, 2048]⟩
abbrev S128x128 : Shape := ⟨2, ![128, 128]⟩
abbrev S128x512 : Shape := ⟨2, ![128, 512]⟩
abbrev S1x128x2048 : Shape := ⟨3, ![1, 128, 2048]⟩
abbrev S1x1x1 : Shape := ⟨3, ![1, 1, 1]⟩
abbrev S1x128 : Shape := ⟨2, ![1, 128]⟩
abbrev S1x1x128 : Shape := ⟨3, ![1, 1, 128]⟩
abbrev S1x32x1x128 : Shape := ⟨4, ![1, 32, 1, 128]⟩
abbrev S1x1x1x1 : Shape := ⟨4, ![1, 1, 1, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S4096x2048, .f32⟩
  | .hbm, ⟨2, _⟩ => ⟨S128x2048, .f32⟩
  | .local _ .vmem, ⟨0, _⟩ => ⟨S4096x128, .f32⟩
  | .local _ .vmem, ⟨1, _⟩ => ⟨S128x2048, .f32⟩
  | .local _ .vmem, ⟨2, _⟩ => ⟨S4096x128, .bf16⟩
  | .local _ .vmem, ⟨3, _⟩ => ⟨S128x4096, .bf16⟩
  | .local _ .vmem, ⟨4, _⟩ => ⟨S2x512x2048, .f32⟩
  | .local _ .vmem, ⟨5, _⟩ => ⟨S32x1x128, .f32⟩
  | _, _ => ⟨S4096x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 132 → Bool
  | ⟨i, _⟩ => dmaSemScopedAt i

abbrev sig : RefSig :=
  (ofTc nBuf bufTy 1 132 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) : Fin 2 → Nat :=
  let c0_i32_301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_296 : BitVec 32 := 128#32
  let v430 : BitVec 32 := Scalar.muli v2 c128_i32_296
  ![0, v430.toNat]
def k0_off2 (d0 : Dev nD) (c1_i32_289 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v418 : BitVec 32 := Scalar.addi v2 c1_i32_289
  let c32_i32_290 : BitVec 32 := 32#32
  let c0_i32_291 : BitVec 32 := 0#32
  let v419 : BitVec 1 := Scalar.cmpi .eq c32_i32_290 c0_i32_291
  let c1_i32_292 : BitVec 32 := 1#32
  let v420 : BitVec 32 := Scalar.select v419 c1_i32_292 c32_i32_290
  let v421 : BitVec 32 := Scalar.remsi v418 v420
  let c0_i32_294 : BitVec 32 := 0#32
  let v423 : BitVec 1 := Scalar.cmpi .slt v421 c0_i32_294
  let c0_i32_295 : BitVec 32 := 0#32
  let v424 : BitVec 1 := Scalar.cmpi .slt v420 c0_i32_295
  let v425 : BitVec 1 := Scalar.xori v423 v424
  let c0_i32_293 : BitVec 32 := 0#32
  let v422 : BitVec 1 := Scalar.cmpi .ne v421 c0_i32_293
  let v426 : BitVec 1 := Scalar.andi v425 v422
  let v427 : BitVec 32 := Scalar.addi v421 v420
  let v428 : BitVec 32 := Scalar.select v426 v427 v421
  let c128_i32 : BitVec 32 := 128#32
  let v429 : BitVec 32 := Scalar.muli v428 c128_i32
  let c0_i32_302 : BitVec 32 := 0#32
  ![v429.toNat, 0]
def k0_dev32 (d0 : Dev nD) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_289 : BitVec 32 := 1#32
  let v418 : BitVec 32 := Scalar.addi v2 c1_i32_289
  let c32_i32_290 : BitVec 32 := 32#32
  let c0_i32_291 : BitVec 32 := 0#32
  let v419 : BitVec 1 := Scalar.cmpi .eq c32_i32_290 c0_i32_291
  let c1_i32_292 : BitVec 32 := 1#32
  let v420 : BitVec 32 := Scalar.select v419 c1_i32_292 c32_i32_290
  let v421 : BitVec 32 := Scalar.remsi v418 v420
  let c0_i32_294 : BitVec 32 := 0#32
  let v423 : BitVec 1 := Scalar.cmpi .slt v421 c0_i32_294
  let c0_i32_295 : BitVec 32 := 0#32
  let v424 : BitVec 1 := Scalar.cmpi .slt v420 c0_i32_295
  let v425 : BitVec 1 := Scalar.xori v423 v424
  let c0_i32_293 : BitVec 32 := 0#32
  let v422 : BitVec 1 := Scalar.cmpi .ne v421 c0_i32_293
  let v426 : BitVec 1 := Scalar.andi v425 v422
  let v427 : BitVec 32 := Scalar.addi v421 v420
  let v428 : BitVec 32 := Scalar.select v426 v427 v421
  let c1_i32_299 : BitVec 32 := 1#32
  let v431 : BitVec 32 := Scalar.muli v428 c1_i32_299
  let v432 : BitVec 32 := Scalar.addi c0_i32_300 v431
  v432.toNat
def k0_dev33 (d0 : Dev nD) : Nat :=
  let c0_i32_315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_303 : BitVec 32 := 2#32
  let v439 : BitVec 32 := Scalar.addi v2 c2_i32_303
  let c32_i32_304 : BitVec 32 := 32#32
  let c0_i32_305 : BitVec 32 := 0#32
  let v440 : BitVec 1 := Scalar.cmpi .eq c32_i32_304 c0_i32_305
  let c1_i32_306 : BitVec 32 := 1#32
  let v441 : BitVec 32 := Scalar.select v440 c1_i32_306 c32_i32_304
  let v442 : BitVec 32 := Scalar.remsi v439 v441
  let c0_i32_308 : BitVec 32 := 0#32
  let v444 : BitVec 1 := Scalar.cmpi .slt v442 c0_i32_308
  let c0_i32_309 : BitVec 32 := 0#32
  let v445 : BitVec 1 := Scalar.cmpi .slt v441 c0_i32_309
  let v446 : BitVec 1 := Scalar.xori v444 v445
  let c0_i32_307 : BitVec 32 := 0#32
  let v443 : BitVec 1 := Scalar.cmpi .ne v442 c0_i32_307
  let v447 : BitVec 1 := Scalar.andi v446 v443
  let v448 : BitVec 32 := Scalar.addi v442 v441
  let v449 : BitVec 32 := Scalar.select v447 v448 v442
  let c1_i32_314 : BitVec 32 := 1#32
  let v452 : BitVec 32 := Scalar.muli v449 c1_i32_314
  let v453 : BitVec 32 := Scalar.addi c0_i32_315 v452
  v453.toNat
def k0_dev34 (d0 : Dev nD) : Nat :=
  let c0_i32_330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_318 : BitVec 32 := 3#32
  let v460 : BitVec 32 := Scalar.addi v2 c3_i32_318
  let c32_i32_319 : BitVec 32 := 32#32
  let c0_i32_320 : BitVec 32 := 0#32
  let v461 : BitVec 1 := Scalar.cmpi .eq c32_i32_319 c0_i32_320
  let c1_i32_321 : BitVec 32 := 1#32
  let v462 : BitVec 32 := Scalar.select v461 c1_i32_321 c32_i32_319
  let v463 : BitVec 32 := Scalar.remsi v460 v462
  let c0_i32_323 : BitVec 32 := 0#32
  let v465 : BitVec 1 := Scalar.cmpi .slt v463 c0_i32_323
  let c0_i32_324 : BitVec 32 := 0#32
  let v466 : BitVec 1 := Scalar.cmpi .slt v462 c0_i32_324
  let v467 : BitVec 1 := Scalar.xori v465 v466
  let c0_i32_322 : BitVec 32 := 0#32
  let v464 : BitVec 1 := Scalar.cmpi .ne v463 c0_i32_322
  let v468 : BitVec 1 := Scalar.andi v467 v464
  let v469 : BitVec 32 := Scalar.addi v463 v462
  let v470 : BitVec 32 := Scalar.select v468 v469 v463
  let c1_i32_329 : BitVec 32 := 1#32
  let v473 : BitVec 32 := Scalar.muli v470 c1_i32_329
  let v474 : BitVec 32 := Scalar.addi c0_i32_330 v473
  v474.toNat
def k0_dev35 (d0 : Dev nD) : Nat :=
  let c0_i32_345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_333 : BitVec 32 := 4#32
  let v481 : BitVec 32 := Scalar.addi v2 c4_i32_333
  let c32_i32_334 : BitVec 32 := 32#32
  let c0_i32_335 : BitVec 32 := 0#32
  let v482 : BitVec 1 := Scalar.cmpi .eq c32_i32_334 c0_i32_335
  let c1_i32_336 : BitVec 32 := 1#32
  let v483 : BitVec 32 := Scalar.select v482 c1_i32_336 c32_i32_334
  let v484 : BitVec 32 := Scalar.remsi v481 v483
  let c0_i32_338 : BitVec 32 := 0#32
  let v486 : BitVec 1 := Scalar.cmpi .slt v484 c0_i32_338
  let c0_i32_339 : BitVec 32 := 0#32
  let v487 : BitVec 1 := Scalar.cmpi .slt v483 c0_i32_339
  let v488 : BitVec 1 := Scalar.xori v486 v487
  let c0_i32_337 : BitVec 32 := 0#32
  let v485 : BitVec 1 := Scalar.cmpi .ne v484 c0_i32_337
  let v489 : BitVec 1 := Scalar.andi v488 v485
  let v490 : BitVec 32 := Scalar.addi v484 v483
  let v491 : BitVec 32 := Scalar.select v489 v490 v484
  let c1_i32_344 : BitVec 32 := 1#32
  let v494 : BitVec 32 := Scalar.muli v491 c1_i32_344
  let v495 : BitVec 32 := Scalar.addi c0_i32_345 v494
  v495.toNat
def k0_dev36 (d0 : Dev nD) : Nat :=
  let c0_i32_360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_348 : BitVec 32 := 5#32
  let v502 : BitVec 32 := Scalar.addi v2 c5_i32_348
  let c32_i32_349 : BitVec 32 := 32#32
  let c0_i32_350 : BitVec 32 := 0#32
  let v503 : BitVec 1 := Scalar.cmpi .eq c32_i32_349 c0_i32_350
  let c1_i32_351 : BitVec 32 := 1#32
  let v504 : BitVec 32 := Scalar.select v503 c1_i32_351 c32_i32_349
  let v505 : BitVec 32 := Scalar.remsi v502 v504
  let c0_i32_353 : BitVec 32 := 0#32
  let v507 : BitVec 1 := Scalar.cmpi .slt v505 c0_i32_353
  let c0_i32_354 : BitVec 32 := 0#32
  let v508 : BitVec 1 := Scalar.cmpi .slt v504 c0_i32_354
  let v509 : BitVec 1 := Scalar.xori v507 v508
  let c0_i32_352 : BitVec 32 := 0#32
  let v506 : BitVec 1 := Scalar.cmpi .ne v505 c0_i32_352
  let v510 : BitVec 1 := Scalar.andi v509 v506
  let v511 : BitVec 32 := Scalar.addi v505 v504
  let v512 : BitVec 32 := Scalar.select v510 v511 v505
  let c1_i32_359 : BitVec 32 := 1#32
  let v515 : BitVec 32 := Scalar.muli v512 c1_i32_359
  let v516 : BitVec 32 := Scalar.addi c0_i32_360 v515
  v516.toNat
def k0_dev37 (d0 : Dev nD) : Nat :=
  let c0_i32_375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_363 : BitVec 32 := 6#32
  let v523 : BitVec 32 := Scalar.addi v2 c6_i32_363
  let c32_i32_364 : BitVec 32 := 32#32
  let c0_i32_365 : BitVec 32 := 0#32
  let v524 : BitVec 1 := Scalar.cmpi .eq c32_i32_364 c0_i32_365
  let c1_i32_366 : BitVec 32 := 1#32
  let v525 : BitVec 32 := Scalar.select v524 c1_i32_366 c32_i32_364
  let v526 : BitVec 32 := Scalar.remsi v523 v525
  let c0_i32_368 : BitVec 32 := 0#32
  let v528 : BitVec 1 := Scalar.cmpi .slt v526 c0_i32_368
  let c0_i32_369 : BitVec 32 := 0#32
  let v529 : BitVec 1 := Scalar.cmpi .slt v525 c0_i32_369
  let v530 : BitVec 1 := Scalar.xori v528 v529
  let c0_i32_367 : BitVec 32 := 0#32
  let v527 : BitVec 1 := Scalar.cmpi .ne v526 c0_i32_367
  let v531 : BitVec 1 := Scalar.andi v530 v527
  let v532 : BitVec 32 := Scalar.addi v526 v525
  let v533 : BitVec 32 := Scalar.select v531 v532 v526
  let c1_i32_374 : BitVec 32 := 1#32
  let v536 : BitVec 32 := Scalar.muli v533 c1_i32_374
  let v537 : BitVec 32 := Scalar.addi c0_i32_375 v536
  v537.toNat
def k0_dev38 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_378 : BitVec 32 := 7#32
  let v544 : BitVec 32 := Scalar.addi v2 c7_i32_378
  let c32_i32_379 : BitVec 32 := 32#32
  let c0_i32_380 : BitVec 32 := 0#32
  let v545 : BitVec 1 := Scalar.cmpi .eq c32_i32_379 c0_i32_380
  let c1_i32_381 : BitVec 32 := 1#32
  let v546 : BitVec 32 := Scalar.select v545 c1_i32_381 c32_i32_379
  let v547 : BitVec 32 := Scalar.remsi v544 v546
  let c0_i32_383 : BitVec 32 := 0#32
  let v549 : BitVec 1 := Scalar.cmpi .slt v547 c0_i32_383
  let c0_i32_384 : BitVec 32 := 0#32
  let v550 : BitVec 1 := Scalar.cmpi .slt v546 c0_i32_384
  let v551 : BitVec 1 := Scalar.xori v549 v550
  let c0_i32_382 : BitVec 32 := 0#32
  let v548 : BitVec 1 := Scalar.cmpi .ne v547 c0_i32_382
  let v552 : BitVec 1 := Scalar.andi v551 v548
  let v553 : BitVec 32 := Scalar.addi v547 v546
  let v554 : BitVec 32 := Scalar.select v552 v553 v547
  let c1_i32_389 : BitVec 32 := 1#32
  let v557 : BitVec 32 := Scalar.muli v554 c1_i32_389
  let v558 : BitVec 32 := Scalar.addi c0_i32_390 v557
  v558.toNat
def k0_dev39 (d0 : Dev nD) : Nat :=
  let c0_i32_405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_393 : BitVec 32 := 8#32
  let v565 : BitVec 32 := Scalar.addi v2 c8_i32_393
  let c32_i32_394 : BitVec 32 := 32#32
  let c0_i32_395 : BitVec 32 := 0#32
  let v566 : BitVec 1 := Scalar.cmpi .eq c32_i32_394 c0_i32_395
  let c1_i32_396 : BitVec 32 := 1#32
  let v567 : BitVec 32 := Scalar.select v566 c1_i32_396 c32_i32_394
  let v568 : BitVec 32 := Scalar.remsi v565 v567
  let c0_i32_398 : BitVec 32 := 0#32
  let v570 : BitVec 1 := Scalar.cmpi .slt v568 c0_i32_398
  let c0_i32_399 : BitVec 32 := 0#32
  let v571 : BitVec 1 := Scalar.cmpi .slt v567 c0_i32_399
  let v572 : BitVec 1 := Scalar.xori v570 v571
  let c0_i32_397 : BitVec 32 := 0#32
  let v569 : BitVec 1 := Scalar.cmpi .ne v568 c0_i32_397
  let v573 : BitVec 1 := Scalar.andi v572 v569
  let v574 : BitVec 32 := Scalar.addi v568 v567
  let v575 : BitVec 32 := Scalar.select v573 v574 v568
  let c1_i32_404 : BitVec 32 := 1#32
  let v578 : BitVec 32 := Scalar.muli v575 c1_i32_404
  let v579 : BitVec 32 := Scalar.addi c0_i32_405 v578
  v579.toNat
def k0_dev40 (d0 : Dev nD) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_408 : BitVec 32 := 9#32
  let v586 : BitVec 32 := Scalar.addi v2 c9_i32_408
  let c32_i32_409 : BitVec 32 := 32#32
  let c0_i32_410 : BitVec 32 := 0#32
  let v587 : BitVec 1 := Scalar.cmpi .eq c32_i32_409 c0_i32_410
  let c1_i32_411 : BitVec 32 := 1#32
  let v588 : BitVec 32 := Scalar.select v587 c1_i32_411 c32_i32_409
  let v589 : BitVec 32 := Scalar.remsi v586 v588
  let c0_i32_413 : BitVec 32 := 0#32
  let v591 : BitVec 1 := Scalar.cmpi .slt v589 c0_i32_413
  let c0_i32_414 : BitVec 32 := 0#32
  let v592 : BitVec 1 := Scalar.cmpi .slt v588 c0_i32_414
  let v593 : BitVec 1 := Scalar.xori v591 v592
  let c0_i32_412 : BitVec 32 := 0#32
  let v590 : BitVec 1 := Scalar.cmpi .ne v589 c0_i32_412
  let v594 : BitVec 1 := Scalar.andi v593 v590
  let v595 : BitVec 32 := Scalar.addi v589 v588
  let v596 : BitVec 32 := Scalar.select v594 v595 v589
  let c1_i32_419 : BitVec 32 := 1#32
  let v599 : BitVec 32 := Scalar.muli v596 c1_i32_419
  let v600 : BitVec 32 := Scalar.addi c0_i32_420 v599
  v600.toNat
def k0_dev41 (d0 : Dev nD) : Nat :=
  let c0_i32_435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_423 : BitVec 32 := 10#32
  let v607 : BitVec 32 := Scalar.addi v2 c10_i32_423
  let c32_i32_424 : BitVec 32 := 32#32
  let c0_i32_425 : BitVec 32 := 0#32
  let v608 : BitVec 1 := Scalar.cmpi .eq c32_i32_424 c0_i32_425
  let c1_i32_426 : BitVec 32 := 1#32
  let v609 : BitVec 32 := Scalar.select v608 c1_i32_426 c32_i32_424
  let v610 : BitVec 32 := Scalar.remsi v607 v609
  let c0_i32_428 : BitVec 32 := 0#32
  let v612 : BitVec 1 := Scalar.cmpi .slt v610 c0_i32_428
  let c0_i32_429 : BitVec 32 := 0#32
  let v613 : BitVec 1 := Scalar.cmpi .slt v609 c0_i32_429
  let v614 : BitVec 1 := Scalar.xori v612 v613
  let c0_i32_427 : BitVec 32 := 0#32
  let v611 : BitVec 1 := Scalar.cmpi .ne v610 c0_i32_427
  let v615 : BitVec 1 := Scalar.andi v614 v611
  let v616 : BitVec 32 := Scalar.addi v610 v609
  let v617 : BitVec 32 := Scalar.select v615 v616 v610
  let c1_i32_434 : BitVec 32 := 1#32
  let v620 : BitVec 32 := Scalar.muli v617 c1_i32_434
  let v621 : BitVec 32 := Scalar.addi c0_i32_435 v620
  v621.toNat
def k0_dev42 (d0 : Dev nD) : Nat :=
  let c0_i32_450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_438 : BitVec 32 := 11#32
  let v628 : BitVec 32 := Scalar.addi v2 c11_i32_438
  let c32_i32_439 : BitVec 32 := 32#32
  let c0_i32_440 : BitVec 32 := 0#32
  let v629 : BitVec 1 := Scalar.cmpi .eq c32_i32_439 c0_i32_440
  let c1_i32_441 : BitVec 32 := 1#32
  let v630 : BitVec 32 := Scalar.select v629 c1_i32_441 c32_i32_439
  let v631 : BitVec 32 := Scalar.remsi v628 v630
  let c0_i32_443 : BitVec 32 := 0#32
  let v633 : BitVec 1 := Scalar.cmpi .slt v631 c0_i32_443
  let c0_i32_444 : BitVec 32 := 0#32
  let v634 : BitVec 1 := Scalar.cmpi .slt v630 c0_i32_444
  let v635 : BitVec 1 := Scalar.xori v633 v634
  let c0_i32_442 : BitVec 32 := 0#32
  let v632 : BitVec 1 := Scalar.cmpi .ne v631 c0_i32_442
  let v636 : BitVec 1 := Scalar.andi v635 v632
  let v637 : BitVec 32 := Scalar.addi v631 v630
  let v638 : BitVec 32 := Scalar.select v636 v637 v631
  let c1_i32_449 : BitVec 32 := 1#32
  let v641 : BitVec 32 := Scalar.muli v638 c1_i32_449
  let v642 : BitVec 32 := Scalar.addi c0_i32_450 v641
  v642.toNat
def k0_dev43 (d0 : Dev nD) : Nat :=
  let c0_i32_465 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_453 : BitVec 32 := 12#32
  let v649 : BitVec 32 := Scalar.addi v2 c12_i32_453
  let c32_i32_454 : BitVec 32 := 32#32
  let c0_i32_455 : BitVec 32 := 0#32
  let v650 : BitVec 1 := Scalar.cmpi .eq c32_i32_454 c0_i32_455
  let c1_i32_456 : BitVec 32 := 1#32
  let v651 : BitVec 32 := Scalar.select v650 c1_i32_456 c32_i32_454
  let v652 : BitVec 32 := Scalar.remsi v649 v651
  let c0_i32_458 : BitVec 32 := 0#32
  let v654 : BitVec 1 := Scalar.cmpi .slt v652 c0_i32_458
  let c0_i32_459 : BitVec 32 := 0#32
  let v655 : BitVec 1 := Scalar.cmpi .slt v651 c0_i32_459
  let v656 : BitVec 1 := Scalar.xori v654 v655
  let c0_i32_457 : BitVec 32 := 0#32
  let v653 : BitVec 1 := Scalar.cmpi .ne v652 c0_i32_457
  let v657 : BitVec 1 := Scalar.andi v656 v653
  let v658 : BitVec 32 := Scalar.addi v652 v651
  let v659 : BitVec 32 := Scalar.select v657 v658 v652
  let c1_i32_464 : BitVec 32 := 1#32
  let v662 : BitVec 32 := Scalar.muli v659 c1_i32_464
  let v663 : BitVec 32 := Scalar.addi c0_i32_465 v662
  v663.toNat
def k0_dev44 (d0 : Dev nD) : Nat :=
  let c0_i32_480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_468 : BitVec 32 := 13#32
  let v670 : BitVec 32 := Scalar.addi v2 c13_i32_468
  let c32_i32_469 : BitVec 32 := 32#32
  let c0_i32_470 : BitVec 32 := 0#32
  let v671 : BitVec 1 := Scalar.cmpi .eq c32_i32_469 c0_i32_470
  let c1_i32_471 : BitVec 32 := 1#32
  let v672 : BitVec 32 := Scalar.select v671 c1_i32_471 c32_i32_469
  let v673 : BitVec 32 := Scalar.remsi v670 v672
  let c0_i32_473 : BitVec 32 := 0#32
  let v675 : BitVec 1 := Scalar.cmpi .slt v673 c0_i32_473
  let c0_i32_474 : BitVec 32 := 0#32
  let v676 : BitVec 1 := Scalar.cmpi .slt v672 c0_i32_474
  let v677 : BitVec 1 := Scalar.xori v675 v676
  let c0_i32_472 : BitVec 32 := 0#32
  let v674 : BitVec 1 := Scalar.cmpi .ne v673 c0_i32_472
  let v678 : BitVec 1 := Scalar.andi v677 v674
  let v679 : BitVec 32 := Scalar.addi v673 v672
  let v680 : BitVec 32 := Scalar.select v678 v679 v673
  let c1_i32_479 : BitVec 32 := 1#32
  let v683 : BitVec 32 := Scalar.muli v680 c1_i32_479
  let v684 : BitVec 32 := Scalar.addi c0_i32_480 v683
  v684.toNat
def k0_dev45 (d0 : Dev nD) : Nat :=
  let c0_i32_495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_483 : BitVec 32 := 14#32
  let v691 : BitVec 32 := Scalar.addi v2 c14_i32_483
  let c32_i32_484 : BitVec 32 := 32#32
  let c0_i32_485 : BitVec 32 := 0#32
  let v692 : BitVec 1 := Scalar.cmpi .eq c32_i32_484 c0_i32_485
  let c1_i32_486 : BitVec 32 := 1#32
  let v693 : BitVec 32 := Scalar.select v692 c1_i32_486 c32_i32_484
  let v694 : BitVec 32 := Scalar.remsi v691 v693
  let c0_i32_488 : BitVec 32 := 0#32
  let v696 : BitVec 1 := Scalar.cmpi .slt v694 c0_i32_488
  let c0_i32_489 : BitVec 32 := 0#32
  let v697 : BitVec 1 := Scalar.cmpi .slt v693 c0_i32_489
  let v698 : BitVec 1 := Scalar.xori v696 v697
  let c0_i32_487 : BitVec 32 := 0#32
  let v695 : BitVec 1 := Scalar.cmpi .ne v694 c0_i32_487
  let v699 : BitVec 1 := Scalar.andi v698 v695
  let v700 : BitVec 32 := Scalar.addi v694 v693
  let v701 : BitVec 32 := Scalar.select v699 v700 v694
  let c1_i32_494 : BitVec 32 := 1#32
  let v704 : BitVec 32 := Scalar.muli v701 c1_i32_494
  let v705 : BitVec 32 := Scalar.addi c0_i32_495 v704
  v705.toNat
def k0_dev46 (d0 : Dev nD) : Nat :=
  let c0_i32_510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_498 : BitVec 32 := 15#32
  let v712 : BitVec 32 := Scalar.addi v2 c15_i32_498
  let c32_i32_499 : BitVec 32 := 32#32
  let c0_i32_500 : BitVec 32 := 0#32
  let v713 : BitVec 1 := Scalar.cmpi .eq c32_i32_499 c0_i32_500
  let c1_i32_501 : BitVec 32 := 1#32
  let v714 : BitVec 32 := Scalar.select v713 c1_i32_501 c32_i32_499
  let v715 : BitVec 32 := Scalar.remsi v712 v714
  let c0_i32_503 : BitVec 32 := 0#32
  let v717 : BitVec 1 := Scalar.cmpi .slt v715 c0_i32_503
  let c0_i32_504 : BitVec 32 := 0#32
  let v718 : BitVec 1 := Scalar.cmpi .slt v714 c0_i32_504
  let v719 : BitVec 1 := Scalar.xori v717 v718
  let c0_i32_502 : BitVec 32 := 0#32
  let v716 : BitVec 1 := Scalar.cmpi .ne v715 c0_i32_502
  let v720 : BitVec 1 := Scalar.andi v719 v716
  let v721 : BitVec 32 := Scalar.addi v715 v714
  let v722 : BitVec 32 := Scalar.select v720 v721 v715
  let c1_i32_509 : BitVec 32 := 1#32
  let v725 : BitVec 32 := Scalar.muli v722 c1_i32_509
  let v726 : BitVec 32 := Scalar.addi c0_i32_510 v725
  v726.toNat
def k0_dev47 (d0 : Dev nD) : Nat :=
  let c0_i32_525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_513 : BitVec 32 := 16#32
  let v733 : BitVec 32 := Scalar.addi v2 c16_i32_513
  let c32_i32_514 : BitVec 32 := 32#32
  let c0_i32_515 : BitVec 32 := 0#32
  let v734 : BitVec 1 := Scalar.cmpi .eq c32_i32_514 c0_i32_515
  let c1_i32_516 : BitVec 32 := 1#32
  let v735 : BitVec 32 := Scalar.select v734 c1_i32_516 c32_i32_514
  let v736 : BitVec 32 := Scalar.remsi v733 v735
  let c0_i32_518 : BitVec 32 := 0#32
  let v738 : BitVec 1 := Scalar.cmpi .slt v736 c0_i32_518
  let c0_i32_519 : BitVec 32 := 0#32
  let v739 : BitVec 1 := Scalar.cmpi .slt v735 c0_i32_519
  let v740 : BitVec 1 := Scalar.xori v738 v739
  let c0_i32_517 : BitVec 32 := 0#32
  let v737 : BitVec 1 := Scalar.cmpi .ne v736 c0_i32_517
  let v741 : BitVec 1 := Scalar.andi v740 v737
  let v742 : BitVec 32 := Scalar.addi v736 v735
  let v743 : BitVec 32 := Scalar.select v741 v742 v736
  let c1_i32_524 : BitVec 32 := 1#32
  let v746 : BitVec 32 := Scalar.muli v743 c1_i32_524
  let v747 : BitVec 32 := Scalar.addi c0_i32_525 v746
  v747.toNat
def k0_dev48 (d0 : Dev nD) : Nat :=
  let c0_i32_540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_528 : BitVec 32 := 17#32
  let v754 : BitVec 32 := Scalar.addi v2 c17_i32_528
  let c32_i32_529 : BitVec 32 := 32#32
  let c0_i32_530 : BitVec 32 := 0#32
  let v755 : BitVec 1 := Scalar.cmpi .eq c32_i32_529 c0_i32_530
  let c1_i32_531 : BitVec 32 := 1#32
  let v756 : BitVec 32 := Scalar.select v755 c1_i32_531 c32_i32_529
  let v757 : BitVec 32 := Scalar.remsi v754 v756
  let c0_i32_533 : BitVec 32 := 0#32
  let v759 : BitVec 1 := Scalar.cmpi .slt v757 c0_i32_533
  let c0_i32_534 : BitVec 32 := 0#32
  let v760 : BitVec 1 := Scalar.cmpi .slt v756 c0_i32_534
  let v761 : BitVec 1 := Scalar.xori v759 v760
  let c0_i32_532 : BitVec 32 := 0#32
  let v758 : BitVec 1 := Scalar.cmpi .ne v757 c0_i32_532
  let v762 : BitVec 1 := Scalar.andi v761 v758
  let v763 : BitVec 32 := Scalar.addi v757 v756
  let v764 : BitVec 32 := Scalar.select v762 v763 v757
  let c1_i32_539 : BitVec 32 := 1#32
  let v767 : BitVec 32 := Scalar.muli v764 c1_i32_539
  let v768 : BitVec 32 := Scalar.addi c0_i32_540 v767
  v768.toNat
def k0_dev49 (d0 : Dev nD) : Nat :=
  let c0_i32_555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_543 : BitVec 32 := 18#32
  let v775 : BitVec 32 := Scalar.addi v2 c18_i32_543
  let c32_i32_544 : BitVec 32 := 32#32
  let c0_i32_545 : BitVec 32 := 0#32
  let v776 : BitVec 1 := Scalar.cmpi .eq c32_i32_544 c0_i32_545
  let c1_i32_546 : BitVec 32 := 1#32
  let v777 : BitVec 32 := Scalar.select v776 c1_i32_546 c32_i32_544
  let v778 : BitVec 32 := Scalar.remsi v775 v777
  let c0_i32_548 : BitVec 32 := 0#32
  let v780 : BitVec 1 := Scalar.cmpi .slt v778 c0_i32_548
  let c0_i32_549 : BitVec 32 := 0#32
  let v781 : BitVec 1 := Scalar.cmpi .slt v777 c0_i32_549
  let v782 : BitVec 1 := Scalar.xori v780 v781
  let c0_i32_547 : BitVec 32 := 0#32
  let v779 : BitVec 1 := Scalar.cmpi .ne v778 c0_i32_547
  let v783 : BitVec 1 := Scalar.andi v782 v779
  let v784 : BitVec 32 := Scalar.addi v778 v777
  let v785 : BitVec 32 := Scalar.select v783 v784 v778
  let c1_i32_554 : BitVec 32 := 1#32
  let v788 : BitVec 32 := Scalar.muli v785 c1_i32_554
  let v789 : BitVec 32 := Scalar.addi c0_i32_555 v788
  v789.toNat
def k0_dev50 (d0 : Dev nD) : Nat :=
  let c0_i32_570 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_558 : BitVec 32 := 19#32
  let v796 : BitVec 32 := Scalar.addi v2 c19_i32_558
  let c32_i32_559 : BitVec 32 := 32#32
  let c0_i32_560 : BitVec 32 := 0#32
  let v797 : BitVec 1 := Scalar.cmpi .eq c32_i32_559 c0_i32_560
  let c1_i32_561 : BitVec 32 := 1#32
  let v798 : BitVec 32 := Scalar.select v797 c1_i32_561 c32_i32_559
  let v799 : BitVec 32 := Scalar.remsi v796 v798
  let c0_i32_563 : BitVec 32 := 0#32
  let v801 : BitVec 1 := Scalar.cmpi .slt v799 c0_i32_563
  let c0_i32_564 : BitVec 32 := 0#32
  let v802 : BitVec 1 := Scalar.cmpi .slt v798 c0_i32_564
  let v803 : BitVec 1 := Scalar.xori v801 v802
  let c0_i32_562 : BitVec 32 := 0#32
  let v800 : BitVec 1 := Scalar.cmpi .ne v799 c0_i32_562
  let v804 : BitVec 1 := Scalar.andi v803 v800
  let v805 : BitVec 32 := Scalar.addi v799 v798
  let v806 : BitVec 32 := Scalar.select v804 v805 v799
  let c1_i32_569 : BitVec 32 := 1#32
  let v809 : BitVec 32 := Scalar.muli v806 c1_i32_569
  let v810 : BitVec 32 := Scalar.addi c0_i32_570 v809
  v810.toNat
def k0_dev51 (d0 : Dev nD) : Nat :=
  let c0_i32_585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_573 : BitVec 32 := 20#32
  let v817 : BitVec 32 := Scalar.addi v2 c20_i32_573
  let c32_i32_574 : BitVec 32 := 32#32
  let c0_i32_575 : BitVec 32 := 0#32
  let v818 : BitVec 1 := Scalar.cmpi .eq c32_i32_574 c0_i32_575
  let c1_i32_576 : BitVec 32 := 1#32
  let v819 : BitVec 32 := Scalar.select v818 c1_i32_576 c32_i32_574
  let v820 : BitVec 32 := Scalar.remsi v817 v819
  let c0_i32_578 : BitVec 32 := 0#32
  let v822 : BitVec 1 := Scalar.cmpi .slt v820 c0_i32_578
  let c0_i32_579 : BitVec 32 := 0#32
  let v823 : BitVec 1 := Scalar.cmpi .slt v819 c0_i32_579
  let v824 : BitVec 1 := Scalar.xori v822 v823
  let c0_i32_577 : BitVec 32 := 0#32
  let v821 : BitVec 1 := Scalar.cmpi .ne v820 c0_i32_577
  let v825 : BitVec 1 := Scalar.andi v824 v821
  let v826 : BitVec 32 := Scalar.addi v820 v819
  let v827 : BitVec 32 := Scalar.select v825 v826 v820
  let c1_i32_584 : BitVec 32 := 1#32
  let v830 : BitVec 32 := Scalar.muli v827 c1_i32_584
  let v831 : BitVec 32 := Scalar.addi c0_i32_585 v830
  v831.toNat
def k0_dev52 (d0 : Dev nD) : Nat :=
  let c0_i32_600 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_588 : BitVec 32 := 21#32
  let v838 : BitVec 32 := Scalar.addi v2 c21_i32_588
  let c32_i32_589 : BitVec 32 := 32#32
  let c0_i32_590 : BitVec 32 := 0#32
  let v839 : BitVec 1 := Scalar.cmpi .eq c32_i32_589 c0_i32_590
  let c1_i32_591 : BitVec 32 := 1#32
  let v840 : BitVec 32 := Scalar.select v839 c1_i32_591 c32_i32_589
  let v841 : BitVec 32 := Scalar.remsi v838 v840
  let c0_i32_593 : BitVec 32 := 0#32
  let v843 : BitVec 1 := Scalar.cmpi .slt v841 c0_i32_593
  let c0_i32_594 : BitVec 32 := 0#32
  let v844 : BitVec 1 := Scalar.cmpi .slt v840 c0_i32_594
  let v845 : BitVec 1 := Scalar.xori v843 v844
  let c0_i32_592 : BitVec 32 := 0#32
  let v842 : BitVec 1 := Scalar.cmpi .ne v841 c0_i32_592
  let v846 : BitVec 1 := Scalar.andi v845 v842
  let v847 : BitVec 32 := Scalar.addi v841 v840
  let v848 : BitVec 32 := Scalar.select v846 v847 v841
  let c1_i32_599 : BitVec 32 := 1#32
  let v851 : BitVec 32 := Scalar.muli v848 c1_i32_599
  let v852 : BitVec 32 := Scalar.addi c0_i32_600 v851
  v852.toNat
def k0_dev53 (d0 : Dev nD) : Nat :=
  let c0_i32_615 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_603 : BitVec 32 := 22#32
  let v859 : BitVec 32 := Scalar.addi v2 c22_i32_603
  let c32_i32_604 : BitVec 32 := 32#32
  let c0_i32_605 : BitVec 32 := 0#32
  let v860 : BitVec 1 := Scalar.cmpi .eq c32_i32_604 c0_i32_605
  let c1_i32_606 : BitVec 32 := 1#32
  let v861 : BitVec 32 := Scalar.select v860 c1_i32_606 c32_i32_604
  let v862 : BitVec 32 := Scalar.remsi v859 v861
  let c0_i32_608 : BitVec 32 := 0#32
  let v864 : BitVec 1 := Scalar.cmpi .slt v862 c0_i32_608
  let c0_i32_609 : BitVec 32 := 0#32
  let v865 : BitVec 1 := Scalar.cmpi .slt v861 c0_i32_609
  let v866 : BitVec 1 := Scalar.xori v864 v865
  let c0_i32_607 : BitVec 32 := 0#32
  let v863 : BitVec 1 := Scalar.cmpi .ne v862 c0_i32_607
  let v867 : BitVec 1 := Scalar.andi v866 v863
  let v868 : BitVec 32 := Scalar.addi v862 v861
  let v869 : BitVec 32 := Scalar.select v867 v868 v862
  let c1_i32_614 : BitVec 32 := 1#32
  let v872 : BitVec 32 := Scalar.muli v869 c1_i32_614
  let v873 : BitVec 32 := Scalar.addi c0_i32_615 v872
  v873.toNat
def k0_dev54 (d0 : Dev nD) : Nat :=
  let c0_i32_630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_618 : BitVec 32 := 23#32
  let v880 : BitVec 32 := Scalar.addi v2 c23_i32_618
  let c32_i32_619 : BitVec 32 := 32#32
  let c0_i32_620 : BitVec 32 := 0#32
  let v881 : BitVec 1 := Scalar.cmpi .eq c32_i32_619 c0_i32_620
  let c1_i32_621 : BitVec 32 := 1#32
  let v882 : BitVec 32 := Scalar.select v881 c1_i32_621 c32_i32_619
  let v883 : BitVec 32 := Scalar.remsi v880 v882
  let c0_i32_623 : BitVec 32 := 0#32
  let v885 : BitVec 1 := Scalar.cmpi .slt v883 c0_i32_623
  let c0_i32_624 : BitVec 32 := 0#32
  let v886 : BitVec 1 := Scalar.cmpi .slt v882 c0_i32_624
  let v887 : BitVec 1 := Scalar.xori v885 v886
  let c0_i32_622 : BitVec 32 := 0#32
  let v884 : BitVec 1 := Scalar.cmpi .ne v883 c0_i32_622
  let v888 : BitVec 1 := Scalar.andi v887 v884
  let v889 : BitVec 32 := Scalar.addi v883 v882
  let v890 : BitVec 32 := Scalar.select v888 v889 v883
  let c1_i32_629 : BitVec 32 := 1#32
  let v893 : BitVec 32 := Scalar.muli v890 c1_i32_629
  let v894 : BitVec 32 := Scalar.addi c0_i32_630 v893
  v894.toNat
def k0_dev55 (d0 : Dev nD) : Nat :=
  let c0_i32_645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_633 : BitVec 32 := 24#32
  let v901 : BitVec 32 := Scalar.addi v2 c24_i32_633
  let c32_i32_634 : BitVec 32 := 32#32
  let c0_i32_635 : BitVec 32 := 0#32
  let v902 : BitVec 1 := Scalar.cmpi .eq c32_i32_634 c0_i32_635
  let c1_i32_636 : BitVec 32 := 1#32
  let v903 : BitVec 32 := Scalar.select v902 c1_i32_636 c32_i32_634
  let v904 : BitVec 32 := Scalar.remsi v901 v903
  let c0_i32_638 : BitVec 32 := 0#32
  let v906 : BitVec 1 := Scalar.cmpi .slt v904 c0_i32_638
  let c0_i32_639 : BitVec 32 := 0#32
  let v907 : BitVec 1 := Scalar.cmpi .slt v903 c0_i32_639
  let v908 : BitVec 1 := Scalar.xori v906 v907
  let c0_i32_637 : BitVec 32 := 0#32
  let v905 : BitVec 1 := Scalar.cmpi .ne v904 c0_i32_637
  let v909 : BitVec 1 := Scalar.andi v908 v905
  let v910 : BitVec 32 := Scalar.addi v904 v903
  let v911 : BitVec 32 := Scalar.select v909 v910 v904
  let c1_i32_644 : BitVec 32 := 1#32
  let v914 : BitVec 32 := Scalar.muli v911 c1_i32_644
  let v915 : BitVec 32 := Scalar.addi c0_i32_645 v914
  v915.toNat
def k0_dev56 (d0 : Dev nD) : Nat :=
  let c0_i32_660 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_648 : BitVec 32 := 25#32
  let v922 : BitVec 32 := Scalar.addi v2 c25_i32_648
  let c32_i32_649 : BitVec 32 := 32#32
  let c0_i32_650 : BitVec 32 := 0#32
  let v923 : BitVec 1 := Scalar.cmpi .eq c32_i32_649 c0_i32_650
  let c1_i32_651 : BitVec 32 := 1#32
  let v924 : BitVec 32 := Scalar.select v923 c1_i32_651 c32_i32_649
  let v925 : BitVec 32 := Scalar.remsi v922 v924
  let c0_i32_653 : BitVec 32 := 0#32
  let v927 : BitVec 1 := Scalar.cmpi .slt v925 c0_i32_653
  let c0_i32_654 : BitVec 32 := 0#32
  let v928 : BitVec 1 := Scalar.cmpi .slt v924 c0_i32_654
  let v929 : BitVec 1 := Scalar.xori v927 v928
  let c0_i32_652 : BitVec 32 := 0#32
  let v926 : BitVec 1 := Scalar.cmpi .ne v925 c0_i32_652
  let v930 : BitVec 1 := Scalar.andi v929 v926
  let v931 : BitVec 32 := Scalar.addi v925 v924
  let v932 : BitVec 32 := Scalar.select v930 v931 v925
  let c1_i32_659 : BitVec 32 := 1#32
  let v935 : BitVec 32 := Scalar.muli v932 c1_i32_659
  let v936 : BitVec 32 := Scalar.addi c0_i32_660 v935
  v936.toNat
def k0_dev57 (d0 : Dev nD) : Nat :=
  let c0_i32_675 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_663 : BitVec 32 := 26#32
  let v943 : BitVec 32 := Scalar.addi v2 c26_i32_663
  let c32_i32_664 : BitVec 32 := 32#32
  let c0_i32_665 : BitVec 32 := 0#32
  let v944 : BitVec 1 := Scalar.cmpi .eq c32_i32_664 c0_i32_665
  let c1_i32_666 : BitVec 32 := 1#32
  let v945 : BitVec 32 := Scalar.select v944 c1_i32_666 c32_i32_664
  let v946 : BitVec 32 := Scalar.remsi v943 v945
  let c0_i32_668 : BitVec 32 := 0#32
  let v948 : BitVec 1 := Scalar.cmpi .slt v946 c0_i32_668
  let c0_i32_669 : BitVec 32 := 0#32
  let v949 : BitVec 1 := Scalar.cmpi .slt v945 c0_i32_669
  let v950 : BitVec 1 := Scalar.xori v948 v949
  let c0_i32_667 : BitVec 32 := 0#32
  let v947 : BitVec 1 := Scalar.cmpi .ne v946 c0_i32_667
  let v951 : BitVec 1 := Scalar.andi v950 v947
  let v952 : BitVec 32 := Scalar.addi v946 v945
  let v953 : BitVec 32 := Scalar.select v951 v952 v946
  let c1_i32_674 : BitVec 32 := 1#32
  let v956 : BitVec 32 := Scalar.muli v953 c1_i32_674
  let v957 : BitVec 32 := Scalar.addi c0_i32_675 v956
  v957.toNat
def k0_dev58 (d0 : Dev nD) : Nat :=
  let c0_i32_690 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_678 : BitVec 32 := 27#32
  let v964 : BitVec 32 := Scalar.addi v2 c27_i32_678
  let c32_i32_679 : BitVec 32 := 32#32
  let c0_i32_680 : BitVec 32 := 0#32
  let v965 : BitVec 1 := Scalar.cmpi .eq c32_i32_679 c0_i32_680
  let c1_i32_681 : BitVec 32 := 1#32
  let v966 : BitVec 32 := Scalar.select v965 c1_i32_681 c32_i32_679
  let v967 : BitVec 32 := Scalar.remsi v964 v966
  let c0_i32_683 : BitVec 32 := 0#32
  let v969 : BitVec 1 := Scalar.cmpi .slt v967 c0_i32_683
  let c0_i32_684 : BitVec 32 := 0#32
  let v970 : BitVec 1 := Scalar.cmpi .slt v966 c0_i32_684
  let v971 : BitVec 1 := Scalar.xori v969 v970
  let c0_i32_682 : BitVec 32 := 0#32
  let v968 : BitVec 1 := Scalar.cmpi .ne v967 c0_i32_682
  let v972 : BitVec 1 := Scalar.andi v971 v968
  let v973 : BitVec 32 := Scalar.addi v967 v966
  let v974 : BitVec 32 := Scalar.select v972 v973 v967
  let c1_i32_689 : BitVec 32 := 1#32
  let v977 : BitVec 32 := Scalar.muli v974 c1_i32_689
  let v978 : BitVec 32 := Scalar.addi c0_i32_690 v977
  v978.toNat
def k0_dev59 (d0 : Dev nD) : Nat :=
  let c0_i32_705 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_693 : BitVec 32 := 28#32
  let v985 : BitVec 32 := Scalar.addi v2 c28_i32_693
  let c32_i32_694 : BitVec 32 := 32#32
  let c0_i32_695 : BitVec 32 := 0#32
  let v986 : BitVec 1 := Scalar.cmpi .eq c32_i32_694 c0_i32_695
  let c1_i32_696 : BitVec 32 := 1#32
  let v987 : BitVec 32 := Scalar.select v986 c1_i32_696 c32_i32_694
  let v988 : BitVec 32 := Scalar.remsi v985 v987
  let c0_i32_698 : BitVec 32 := 0#32
  let v990 : BitVec 1 := Scalar.cmpi .slt v988 c0_i32_698
  let c0_i32_699 : BitVec 32 := 0#32
  let v991 : BitVec 1 := Scalar.cmpi .slt v987 c0_i32_699
  let v992 : BitVec 1 := Scalar.xori v990 v991
  let c0_i32_697 : BitVec 32 := 0#32
  let v989 : BitVec 1 := Scalar.cmpi .ne v988 c0_i32_697
  let v993 : BitVec 1 := Scalar.andi v992 v989
  let v994 : BitVec 32 := Scalar.addi v988 v987
  let v995 : BitVec 32 := Scalar.select v993 v994 v988
  let c1_i32_704 : BitVec 32 := 1#32
  let v998 : BitVec 32 := Scalar.muli v995 c1_i32_704
  let v999 : BitVec 32 := Scalar.addi c0_i32_705 v998
  v999.toNat
def k0_dev60 (d0 : Dev nD) : Nat :=
  let c0_i32_720 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_708 : BitVec 32 := 29#32
  let v1006 : BitVec 32 := Scalar.addi v2 c29_i32_708
  let c32_i32_709 : BitVec 32 := 32#32
  let c0_i32_710 : BitVec 32 := 0#32
  let v1007 : BitVec 1 := Scalar.cmpi .eq c32_i32_709 c0_i32_710
  let c1_i32_711 : BitVec 32 := 1#32
  let v1008 : BitVec 32 := Scalar.select v1007 c1_i32_711 c32_i32_709
  let v1009 : BitVec 32 := Scalar.remsi v1006 v1008
  let c0_i32_713 : BitVec 32 := 0#32
  let v1011 : BitVec 1 := Scalar.cmpi .slt v1009 c0_i32_713
  let c0_i32_714 : BitVec 32 := 0#32
  let v1012 : BitVec 1 := Scalar.cmpi .slt v1008 c0_i32_714
  let v1013 : BitVec 1 := Scalar.xori v1011 v1012
  let c0_i32_712 : BitVec 32 := 0#32
  let v1010 : BitVec 1 := Scalar.cmpi .ne v1009 c0_i32_712
  let v1014 : BitVec 1 := Scalar.andi v1013 v1010
  let v1015 : BitVec 32 := Scalar.addi v1009 v1008
  let v1016 : BitVec 32 := Scalar.select v1014 v1015 v1009
  let c1_i32_719 : BitVec 32 := 1#32
  let v1019 : BitVec 32 := Scalar.muli v1016 c1_i32_719
  let v1020 : BitVec 32 := Scalar.addi c0_i32_720 v1019
  v1020.toNat
def k0_dev61 (d0 : Dev nD) : Nat :=
  let c0_i32_735 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_723 : BitVec 32 := 30#32
  let v1027 : BitVec 32 := Scalar.addi v2 c30_i32_723
  let c32_i32_724 : BitVec 32 := 32#32
  let c0_i32_725 : BitVec 32 := 0#32
  let v1028 : BitVec 1 := Scalar.cmpi .eq c32_i32_724 c0_i32_725
  let c1_i32_726 : BitVec 32 := 1#32
  let v1029 : BitVec 32 := Scalar.select v1028 c1_i32_726 c32_i32_724
  let v1030 : BitVec 32 := Scalar.remsi v1027 v1029
  let c0_i32_728 : BitVec 32 := 0#32
  let v1032 : BitVec 1 := Scalar.cmpi .slt v1030 c0_i32_728
  let c0_i32_729 : BitVec 32 := 0#32
  let v1033 : BitVec 1 := Scalar.cmpi .slt v1029 c0_i32_729
  let v1034 : BitVec 1 := Scalar.xori v1032 v1033
  let c0_i32_727 : BitVec 32 := 0#32
  let v1031 : BitVec 1 := Scalar.cmpi .ne v1030 c0_i32_727
  let v1035 : BitVec 1 := Scalar.andi v1034 v1031
  let v1036 : BitVec 32 := Scalar.addi v1030 v1029
  let v1037 : BitVec 32 := Scalar.select v1035 v1036 v1030
  let c1_i32_734 : BitVec 32 := 1#32
  let v1040 : BitVec 32 := Scalar.muli v1037 c1_i32_734
  let v1041 : BitVec 32 := Scalar.addi c0_i32_735 v1040
  v1041.toNat
def k0_dev62 (d0 : Dev nD) : Nat :=
  let c0_i32_750 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_738 : BitVec 32 := 31#32
  let v1048 : BitVec 32 := Scalar.addi v2 c31_i32_738
  let c32_i32_739 : BitVec 32 := 32#32
  let c0_i32_740 : BitVec 32 := 0#32
  let v1049 : BitVec 1 := Scalar.cmpi .eq c32_i32_739 c0_i32_740
  let c1_i32_741 : BitVec 32 := 1#32
  let v1050 : BitVec 32 := Scalar.select v1049 c1_i32_741 c32_i32_739
  let v1051 : BitVec 32 := Scalar.remsi v1048 v1050
  let c0_i32_743 : BitVec 32 := 0#32
  let v1053 : BitVec 1 := Scalar.cmpi .slt v1051 c0_i32_743
  let c0_i32_744 : BitVec 32 := 0#32
  let v1054 : BitVec 1 := Scalar.cmpi .slt v1050 c0_i32_744
  let v1055 : BitVec 1 := Scalar.xori v1053 v1054
  let c0_i32_742 : BitVec 32 := 0#32
  let v1052 : BitVec 1 := Scalar.cmpi .ne v1051 c0_i32_742
  let v1056 : BitVec 1 := Scalar.andi v1055 v1052
  let v1057 : BitVec 32 := Scalar.addi v1051 v1050
  let v1058 : BitVec 32 := Scalar.select v1056 v1057 v1051
  let c1_i32_749 : BitVec 32 := 1#32
  let v1061 : BitVec 32 := Scalar.muli v1058 c1_i32_749
  let v1062 : BitVec 32 := Scalar.addi c0_i32_750 v1061
  v1062.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_753 : BitVec 32 := 128#32
  let v1069 : BitVec 32 := Scalar.muli v2 c128_i32_753
  let v1070 : Index := Scalar.indexCast v1069
  let c0_754 : Index := 0#32
  ![v1070.toNat, 0]
def k0_off4 (d0 : Dev nD) : Fin 2 → Nat :=
  let c0_756 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_755 : BitVec 32 := 128#32
  let v1072 : BitVec 32 := Scalar.muli v2 c128_i32_755
  let v1073 : Index := Scalar.indexCast v1072
  ![0, v1073.toNat]
def k0_dev63 (d0 : Dev nD) : Nat :=
  let c0_i32_1238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1226 : BitVec 32 := 1#32
  let v1521 : BitVec 32 := Scalar.addi v2 c1_i32_1226
  let c32_i32_1227 : BitVec 32 := 32#32
  let c0_i32_1228 : BitVec 32 := 0#32
  let v1522 : BitVec 1 := Scalar.cmpi .eq c32_i32_1227 c0_i32_1228
  let c1_i32_1229 : BitVec 32 := 1#32
  let v1523 : BitVec 32 := Scalar.select v1522 c1_i32_1229 c32_i32_1227
  let v1524 : BitVec 32 := Scalar.remsi v1521 v1523
  let c0_i32_1231 : BitVec 32 := 0#32
  let v1526 : BitVec 1 := Scalar.cmpi .slt v1524 c0_i32_1231
  let c0_i32_1232 : BitVec 32 := 0#32
  let v1527 : BitVec 1 := Scalar.cmpi .slt v1523 c0_i32_1232
  let v1528 : BitVec 1 := Scalar.xori v1526 v1527
  let c0_i32_1230 : BitVec 32 := 0#32
  let v1525 : BitVec 1 := Scalar.cmpi .ne v1524 c0_i32_1230
  let v1529 : BitVec 1 := Scalar.andi v1528 v1525
  let v1530 : BitVec 32 := Scalar.addi v1524 v1523
  let v1531 : BitVec 32 := Scalar.select v1529 v1530 v1524
  let c1_i32_1237 : BitVec 32 := 1#32
  let v1532 : BitVec 32 := Scalar.muli v1531 c1_i32_1237
  let v1533 : BitVec 32 := Scalar.addi c0_i32_1238 v1532
  v1533.toNat
def k0_dev64 (d0 : Dev nD) : Nat :=
  let c0_i32_1255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1243 : BitVec 32 := 2#32
  let v1542 : BitVec 32 := Scalar.addi v2 c2_i32_1243
  let c32_i32_1244 : BitVec 32 := 32#32
  let c0_i32_1245 : BitVec 32 := 0#32
  let v1543 : BitVec 1 := Scalar.cmpi .eq c32_i32_1244 c0_i32_1245
  let c1_i32_1246 : BitVec 32 := 1#32
  let v1544 : BitVec 32 := Scalar.select v1543 c1_i32_1246 c32_i32_1244
  let v1545 : BitVec 32 := Scalar.remsi v1542 v1544
  let c0_i32_1248 : BitVec 32 := 0#32
  let v1547 : BitVec 1 := Scalar.cmpi .slt v1545 c0_i32_1248
  let c0_i32_1249 : BitVec 32 := 0#32
  let v1548 : BitVec 1 := Scalar.cmpi .slt v1544 c0_i32_1249
  let v1549 : BitVec 1 := Scalar.xori v1547 v1548
  let c0_i32_1247 : BitVec 32 := 0#32
  let v1546 : BitVec 1 := Scalar.cmpi .ne v1545 c0_i32_1247
  let v1550 : BitVec 1 := Scalar.andi v1549 v1546
  let v1551 : BitVec 32 := Scalar.addi v1545 v1544
  let v1552 : BitVec 32 := Scalar.select v1550 v1551 v1545
  let c1_i32_1254 : BitVec 32 := 1#32
  let v1553 : BitVec 32 := Scalar.muli v1552 c1_i32_1254
  let v1554 : BitVec 32 := Scalar.addi c0_i32_1255 v1553
  v1554.toNat
def k0_dev65 (d0 : Dev nD) : Nat :=
  let c0_i32_1272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1260 : BitVec 32 := 3#32
  let v1563 : BitVec 32 := Scalar.addi v2 c3_i32_1260
  let c32_i32_1261 : BitVec 32 := 32#32
  let c0_i32_1262 : BitVec 32 := 0#32
  let v1564 : BitVec 1 := Scalar.cmpi .eq c32_i32_1261 c0_i32_1262
  let c1_i32_1263 : BitVec 32 := 1#32
  let v1565 : BitVec 32 := Scalar.select v1564 c1_i32_1263 c32_i32_1261
  let v1566 : BitVec 32 := Scalar.remsi v1563 v1565
  let c0_i32_1265 : BitVec 32 := 0#32
  let v1568 : BitVec 1 := Scalar.cmpi .slt v1566 c0_i32_1265
  let c0_i32_1266 : BitVec 32 := 0#32
  let v1569 : BitVec 1 := Scalar.cmpi .slt v1565 c0_i32_1266
  let v1570 : BitVec 1 := Scalar.xori v1568 v1569
  let c0_i32_1264 : BitVec 32 := 0#32
  let v1567 : BitVec 1 := Scalar.cmpi .ne v1566 c0_i32_1264
  let v1571 : BitVec 1 := Scalar.andi v1570 v1567
  let v1572 : BitVec 32 := Scalar.addi v1566 v1565
  let v1573 : BitVec 32 := Scalar.select v1571 v1572 v1566
  let c1_i32_1271 : BitVec 32 := 1#32
  let v1574 : BitVec 32 := Scalar.muli v1573 c1_i32_1271
  let v1575 : BitVec 32 := Scalar.addi c0_i32_1272 v1574
  v1575.toNat
def k0_dev66 (d0 : Dev nD) : Nat :=
  let c0_i32_1289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1277 : BitVec 32 := 4#32
  let v1584 : BitVec 32 := Scalar.addi v2 c4_i32_1277
  let c32_i32_1278 : BitVec 32 := 32#32
  let c0_i32_1279 : BitVec 32 := 0#32
  let v1585 : BitVec 1 := Scalar.cmpi .eq c32_i32_1278 c0_i32_1279
  let c1_i32_1280 : BitVec 32 := 1#32
  let v1586 : BitVec 32 := Scalar.select v1585 c1_i32_1280 c32_i32_1278
  let v1587 : BitVec 32 := Scalar.remsi v1584 v1586
  let c0_i32_1282 : BitVec 32 := 0#32
  let v1589 : BitVec 1 := Scalar.cmpi .slt v1587 c0_i32_1282
  let c0_i32_1283 : BitVec 32 := 0#32
  let v1590 : BitVec 1 := Scalar.cmpi .slt v1586 c0_i32_1283
  let v1591 : BitVec 1 := Scalar.xori v1589 v1590
  let c0_i32_1281 : BitVec 32 := 0#32
  let v1588 : BitVec 1 := Scalar.cmpi .ne v1587 c0_i32_1281
  let v1592 : BitVec 1 := Scalar.andi v1591 v1588
  let v1593 : BitVec 32 := Scalar.addi v1587 v1586
  let v1594 : BitVec 32 := Scalar.select v1592 v1593 v1587
  let c1_i32_1288 : BitVec 32 := 1#32
  let v1595 : BitVec 32 := Scalar.muli v1594 c1_i32_1288
  let v1596 : BitVec 32 := Scalar.addi c0_i32_1289 v1595
  v1596.toNat
def k0_dev67 (d0 : Dev nD) : Nat :=
  let c0_i32_1306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1294 : BitVec 32 := 5#32
  let v1605 : BitVec 32 := Scalar.addi v2 c5_i32_1294
  let c32_i32_1295 : BitVec 32 := 32#32
  let c0_i32_1296 : BitVec 32 := 0#32
  let v1606 : BitVec 1 := Scalar.cmpi .eq c32_i32_1295 c0_i32_1296
  let c1_i32_1297 : BitVec 32 := 1#32
  let v1607 : BitVec 32 := Scalar.select v1606 c1_i32_1297 c32_i32_1295
  let v1608 : BitVec 32 := Scalar.remsi v1605 v1607
  let c0_i32_1299 : BitVec 32 := 0#32
  let v1610 : BitVec 1 := Scalar.cmpi .slt v1608 c0_i32_1299
  let c0_i32_1300 : BitVec 32 := 0#32
  let v1611 : BitVec 1 := Scalar.cmpi .slt v1607 c0_i32_1300
  let v1612 : BitVec 1 := Scalar.xori v1610 v1611
  let c0_i32_1298 : BitVec 32 := 0#32
  let v1609 : BitVec 1 := Scalar.cmpi .ne v1608 c0_i32_1298
  let v1613 : BitVec 1 := Scalar.andi v1612 v1609
  let v1614 : BitVec 32 := Scalar.addi v1608 v1607
  let v1615 : BitVec 32 := Scalar.select v1613 v1614 v1608
  let c1_i32_1305 : BitVec 32 := 1#32
  let v1616 : BitVec 32 := Scalar.muli v1615 c1_i32_1305
  let v1617 : BitVec 32 := Scalar.addi c0_i32_1306 v1616
  v1617.toNat
def k0_dev68 (d0 : Dev nD) : Nat :=
  let c0_i32_1323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1311 : BitVec 32 := 6#32
  let v1626 : BitVec 32 := Scalar.addi v2 c6_i32_1311
  let c32_i32_1312 : BitVec 32 := 32#32
  let c0_i32_1313 : BitVec 32 := 0#32
  let v1627 : BitVec 1 := Scalar.cmpi .eq c32_i32_1312 c0_i32_1313
  let c1_i32_1314 : BitVec 32 := 1#32
  let v1628 : BitVec 32 := Scalar.select v1627 c1_i32_1314 c32_i32_1312
  let v1629 : BitVec 32 := Scalar.remsi v1626 v1628
  let c0_i32_1316 : BitVec 32 := 0#32
  let v1631 : BitVec 1 := Scalar.cmpi .slt v1629 c0_i32_1316
  let c0_i32_1317 : BitVec 32 := 0#32
  let v1632 : BitVec 1 := Scalar.cmpi .slt v1628 c0_i32_1317
  let v1633 : BitVec 1 := Scalar.xori v1631 v1632
  let c0_i32_1315 : BitVec 32 := 0#32
  let v1630 : BitVec 1 := Scalar.cmpi .ne v1629 c0_i32_1315
  let v1634 : BitVec 1 := Scalar.andi v1633 v1630
  let v1635 : BitVec 32 := Scalar.addi v1629 v1628
  let v1636 : BitVec 32 := Scalar.select v1634 v1635 v1629
  let c1_i32_1322 : BitVec 32 := 1#32
  let v1637 : BitVec 32 := Scalar.muli v1636 c1_i32_1322
  let v1638 : BitVec 32 := Scalar.addi c0_i32_1323 v1637
  v1638.toNat
def k0_dev69 (d0 : Dev nD) : Nat :=
  let c0_i32_1340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1328 : BitVec 32 := 7#32
  let v1647 : BitVec 32 := Scalar.addi v2 c7_i32_1328
  let c32_i32_1329 : BitVec 32 := 32#32
  let c0_i32_1330 : BitVec 32 := 0#32
  let v1648 : BitVec 1 := Scalar.cmpi .eq c32_i32_1329 c0_i32_1330
  let c1_i32_1331 : BitVec 32 := 1#32
  let v1649 : BitVec 32 := Scalar.select v1648 c1_i32_1331 c32_i32_1329
  let v1650 : BitVec 32 := Scalar.remsi v1647 v1649
  let c0_i32_1333 : BitVec 32 := 0#32
  let v1652 : BitVec 1 := Scalar.cmpi .slt v1650 c0_i32_1333
  let c0_i32_1334 : BitVec 32 := 0#32
  let v1653 : BitVec 1 := Scalar.cmpi .slt v1649 c0_i32_1334
  let v1654 : BitVec 1 := Scalar.xori v1652 v1653
  let c0_i32_1332 : BitVec 32 := 0#32
  let v1651 : BitVec 1 := Scalar.cmpi .ne v1650 c0_i32_1332
  let v1655 : BitVec 1 := Scalar.andi v1654 v1651
  let v1656 : BitVec 32 := Scalar.addi v1650 v1649
  let v1657 : BitVec 32 := Scalar.select v1655 v1656 v1650
  let c1_i32_1339 : BitVec 32 := 1#32
  let v1658 : BitVec 32 := Scalar.muli v1657 c1_i32_1339
  let v1659 : BitVec 32 := Scalar.addi c0_i32_1340 v1658
  v1659.toNat
def k0_dev70 (d0 : Dev nD) : Nat :=
  let c0_i32_1357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1345 : BitVec 32 := 8#32
  let v1668 : BitVec 32 := Scalar.addi v2 c8_i32_1345
  let c32_i32_1346 : BitVec 32 := 32#32
  let c0_i32_1347 : BitVec 32 := 0#32
  let v1669 : BitVec 1 := Scalar.cmpi .eq c32_i32_1346 c0_i32_1347
  let c1_i32_1348 : BitVec 32 := 1#32
  let v1670 : BitVec 32 := Scalar.select v1669 c1_i32_1348 c32_i32_1346
  let v1671 : BitVec 32 := Scalar.remsi v1668 v1670
  let c0_i32_1350 : BitVec 32 := 0#32
  let v1673 : BitVec 1 := Scalar.cmpi .slt v1671 c0_i32_1350
  let c0_i32_1351 : BitVec 32 := 0#32
  let v1674 : BitVec 1 := Scalar.cmpi .slt v1670 c0_i32_1351
  let v1675 : BitVec 1 := Scalar.xori v1673 v1674
  let c0_i32_1349 : BitVec 32 := 0#32
  let v1672 : BitVec 1 := Scalar.cmpi .ne v1671 c0_i32_1349
  let v1676 : BitVec 1 := Scalar.andi v1675 v1672
  let v1677 : BitVec 32 := Scalar.addi v1671 v1670
  let v1678 : BitVec 32 := Scalar.select v1676 v1677 v1671
  let c1_i32_1356 : BitVec 32 := 1#32
  let v1679 : BitVec 32 := Scalar.muli v1678 c1_i32_1356
  let v1680 : BitVec 32 := Scalar.addi c0_i32_1357 v1679
  v1680.toNat
def k0_dev71 (d0 : Dev nD) : Nat :=
  let c0_i32_1374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1362 : BitVec 32 := 9#32
  let v1689 : BitVec 32 := Scalar.addi v2 c9_i32_1362
  let c32_i32_1363 : BitVec 32 := 32#32
  let c0_i32_1364 : BitVec 32 := 0#32
  let v1690 : BitVec 1 := Scalar.cmpi .eq c32_i32_1363 c0_i32_1364
  let c1_i32_1365 : BitVec 32 := 1#32
  let v1691 : BitVec 32 := Scalar.select v1690 c1_i32_1365 c32_i32_1363
  let v1692 : BitVec 32 := Scalar.remsi v1689 v1691
  let c0_i32_1367 : BitVec 32 := 0#32
  let v1694 : BitVec 1 := Scalar.cmpi .slt v1692 c0_i32_1367
  let c0_i32_1368 : BitVec 32 := 0#32
  let v1695 : BitVec 1 := Scalar.cmpi .slt v1691 c0_i32_1368
  let v1696 : BitVec 1 := Scalar.xori v1694 v1695
  let c0_i32_1366 : BitVec 32 := 0#32
  let v1693 : BitVec 1 := Scalar.cmpi .ne v1692 c0_i32_1366
  let v1697 : BitVec 1 := Scalar.andi v1696 v1693
  let v1698 : BitVec 32 := Scalar.addi v1692 v1691
  let v1699 : BitVec 32 := Scalar.select v1697 v1698 v1692
  let c1_i32_1373 : BitVec 32 := 1#32
  let v1700 : BitVec 32 := Scalar.muli v1699 c1_i32_1373
  let v1701 : BitVec 32 := Scalar.addi c0_i32_1374 v1700
  v1701.toNat
def k0_dev72 (d0 : Dev nD) : Nat :=
  let c0_i32_1391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1379 : BitVec 32 := 10#32
  let v1710 : BitVec 32 := Scalar.addi v2 c10_i32_1379
  let c32_i32_1380 : BitVec 32 := 32#32
  let c0_i32_1381 : BitVec 32 := 0#32
  let v1711 : BitVec 1 := Scalar.cmpi .eq c32_i32_1380 c0_i32_1381
  let c1_i32_1382 : BitVec 32 := 1#32
  let v1712 : BitVec 32 := Scalar.select v1711 c1_i32_1382 c32_i32_1380
  let v1713 : BitVec 32 := Scalar.remsi v1710 v1712
  let c0_i32_1384 : BitVec 32 := 0#32
  let v1715 : BitVec 1 := Scalar.cmpi .slt v1713 c0_i32_1384
  let c0_i32_1385 : BitVec 32 := 0#32
  let v1716 : BitVec 1 := Scalar.cmpi .slt v1712 c0_i32_1385
  let v1717 : BitVec 1 := Scalar.xori v1715 v1716
  let c0_i32_1383 : BitVec 32 := 0#32
  let v1714 : BitVec 1 := Scalar.cmpi .ne v1713 c0_i32_1383
  let v1718 : BitVec 1 := Scalar.andi v1717 v1714
  let v1719 : BitVec 32 := Scalar.addi v1713 v1712
  let v1720 : BitVec 32 := Scalar.select v1718 v1719 v1713
  let c1_i32_1390 : BitVec 32 := 1#32
  let v1721 : BitVec 32 := Scalar.muli v1720 c1_i32_1390
  let v1722 : BitVec 32 := Scalar.addi c0_i32_1391 v1721
  v1722.toNat
def k0_dev73 (d0 : Dev nD) : Nat :=
  let c0_i32_1408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1396 : BitVec 32 := 11#32
  let v1731 : BitVec 32 := Scalar.addi v2 c11_i32_1396
  let c32_i32_1397 : BitVec 32 := 32#32
  let c0_i32_1398 : BitVec 32 := 0#32
  let v1732 : BitVec 1 := Scalar.cmpi .eq c32_i32_1397 c0_i32_1398
  let c1_i32_1399 : BitVec 32 := 1#32
  let v1733 : BitVec 32 := Scalar.select v1732 c1_i32_1399 c32_i32_1397
  let v1734 : BitVec 32 := Scalar.remsi v1731 v1733
  let c0_i32_1401 : BitVec 32 := 0#32
  let v1736 : BitVec 1 := Scalar.cmpi .slt v1734 c0_i32_1401
  let c0_i32_1402 : BitVec 32 := 0#32
  let v1737 : BitVec 1 := Scalar.cmpi .slt v1733 c0_i32_1402
  let v1738 : BitVec 1 := Scalar.xori v1736 v1737
  let c0_i32_1400 : BitVec 32 := 0#32
  let v1735 : BitVec 1 := Scalar.cmpi .ne v1734 c0_i32_1400
  let v1739 : BitVec 1 := Scalar.andi v1738 v1735
  let v1740 : BitVec 32 := Scalar.addi v1734 v1733
  let v1741 : BitVec 32 := Scalar.select v1739 v1740 v1734
  let c1_i32_1407 : BitVec 32 := 1#32
  let v1742 : BitVec 32 := Scalar.muli v1741 c1_i32_1407
  let v1743 : BitVec 32 := Scalar.addi c0_i32_1408 v1742
  v1743.toNat
def k0_dev74 (d0 : Dev nD) : Nat :=
  let c0_i32_1425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1413 : BitVec 32 := 12#32
  let v1752 : BitVec 32 := Scalar.addi v2 c12_i32_1413
  let c32_i32_1414 : BitVec 32 := 32#32
  let c0_i32_1415 : BitVec 32 := 0#32
  let v1753 : BitVec 1 := Scalar.cmpi .eq c32_i32_1414 c0_i32_1415
  let c1_i32_1416 : BitVec 32 := 1#32
  let v1754 : BitVec 32 := Scalar.select v1753 c1_i32_1416 c32_i32_1414
  let v1755 : BitVec 32 := Scalar.remsi v1752 v1754
  let c0_i32_1418 : BitVec 32 := 0#32
  let v1757 : BitVec 1 := Scalar.cmpi .slt v1755 c0_i32_1418
  let c0_i32_1419 : BitVec 32 := 0#32
  let v1758 : BitVec 1 := Scalar.cmpi .slt v1754 c0_i32_1419
  let v1759 : BitVec 1 := Scalar.xori v1757 v1758
  let c0_i32_1417 : BitVec 32 := 0#32
  let v1756 : BitVec 1 := Scalar.cmpi .ne v1755 c0_i32_1417
  let v1760 : BitVec 1 := Scalar.andi v1759 v1756
  let v1761 : BitVec 32 := Scalar.addi v1755 v1754
  let v1762 : BitVec 32 := Scalar.select v1760 v1761 v1755
  let c1_i32_1424 : BitVec 32 := 1#32
  let v1763 : BitVec 32 := Scalar.muli v1762 c1_i32_1424
  let v1764 : BitVec 32 := Scalar.addi c0_i32_1425 v1763
  v1764.toNat
def k0_dev75 (d0 : Dev nD) : Nat :=
  let c0_i32_1442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1430 : BitVec 32 := 13#32
  let v1773 : BitVec 32 := Scalar.addi v2 c13_i32_1430
  let c32_i32_1431 : BitVec 32 := 32#32
  let c0_i32_1432 : BitVec 32 := 0#32
  let v1774 : BitVec 1 := Scalar.cmpi .eq c32_i32_1431 c0_i32_1432
  let c1_i32_1433 : BitVec 32 := 1#32
  let v1775 : BitVec 32 := Scalar.select v1774 c1_i32_1433 c32_i32_1431
  let v1776 : BitVec 32 := Scalar.remsi v1773 v1775
  let c0_i32_1435 : BitVec 32 := 0#32
  let v1778 : BitVec 1 := Scalar.cmpi .slt v1776 c0_i32_1435
  let c0_i32_1436 : BitVec 32 := 0#32
  let v1779 : BitVec 1 := Scalar.cmpi .slt v1775 c0_i32_1436
  let v1780 : BitVec 1 := Scalar.xori v1778 v1779
  let c0_i32_1434 : BitVec 32 := 0#32
  let v1777 : BitVec 1 := Scalar.cmpi .ne v1776 c0_i32_1434
  let v1781 : BitVec 1 := Scalar.andi v1780 v1777
  let v1782 : BitVec 32 := Scalar.addi v1776 v1775
  let v1783 : BitVec 32 := Scalar.select v1781 v1782 v1776
  let c1_i32_1441 : BitVec 32 := 1#32
  let v1784 : BitVec 32 := Scalar.muli v1783 c1_i32_1441
  let v1785 : BitVec 32 := Scalar.addi c0_i32_1442 v1784
  v1785.toNat
def k0_dev76 (d0 : Dev nD) : Nat :=
  let c0_i32_1459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1447 : BitVec 32 := 14#32
  let v1794 : BitVec 32 := Scalar.addi v2 c14_i32_1447
  let c32_i32_1448 : BitVec 32 := 32#32
  let c0_i32_1449 : BitVec 32 := 0#32
  let v1795 : BitVec 1 := Scalar.cmpi .eq c32_i32_1448 c0_i32_1449
  let c1_i32_1450 : BitVec 32 := 1#32
  let v1796 : BitVec 32 := Scalar.select v1795 c1_i32_1450 c32_i32_1448
  let v1797 : BitVec 32 := Scalar.remsi v1794 v1796
  let c0_i32_1452 : BitVec 32 := 0#32
  let v1799 : BitVec 1 := Scalar.cmpi .slt v1797 c0_i32_1452
  let c0_i32_1453 : BitVec 32 := 0#32
  let v1800 : BitVec 1 := Scalar.cmpi .slt v1796 c0_i32_1453
  let v1801 : BitVec 1 := Scalar.xori v1799 v1800
  let c0_i32_1451 : BitVec 32 := 0#32
  let v1798 : BitVec 1 := Scalar.cmpi .ne v1797 c0_i32_1451
  let v1802 : BitVec 1 := Scalar.andi v1801 v1798
  let v1803 : BitVec 32 := Scalar.addi v1797 v1796
  let v1804 : BitVec 32 := Scalar.select v1802 v1803 v1797
  let c1_i32_1458 : BitVec 32 := 1#32
  let v1805 : BitVec 32 := Scalar.muli v1804 c1_i32_1458
  let v1806 : BitVec 32 := Scalar.addi c0_i32_1459 v1805
  v1806.toNat
def k0_dev77 (d0 : Dev nD) : Nat :=
  let c0_i32_1476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1464 : BitVec 32 := 15#32
  let v1815 : BitVec 32 := Scalar.addi v2 c15_i32_1464
  let c32_i32_1465 : BitVec 32 := 32#32
  let c0_i32_1466 : BitVec 32 := 0#32
  let v1816 : BitVec 1 := Scalar.cmpi .eq c32_i32_1465 c0_i32_1466
  let c1_i32_1467 : BitVec 32 := 1#32
  let v1817 : BitVec 32 := Scalar.select v1816 c1_i32_1467 c32_i32_1465
  let v1818 : BitVec 32 := Scalar.remsi v1815 v1817
  let c0_i32_1469 : BitVec 32 := 0#32
  let v1820 : BitVec 1 := Scalar.cmpi .slt v1818 c0_i32_1469
  let c0_i32_1470 : BitVec 32 := 0#32
  let v1821 : BitVec 1 := Scalar.cmpi .slt v1817 c0_i32_1470
  let v1822 : BitVec 1 := Scalar.xori v1820 v1821
  let c0_i32_1468 : BitVec 32 := 0#32
  let v1819 : BitVec 1 := Scalar.cmpi .ne v1818 c0_i32_1468
  let v1823 : BitVec 1 := Scalar.andi v1822 v1819
  let v1824 : BitVec 32 := Scalar.addi v1818 v1817
  let v1825 : BitVec 32 := Scalar.select v1823 v1824 v1818
  let c1_i32_1475 : BitVec 32 := 1#32
  let v1826 : BitVec 32 := Scalar.muli v1825 c1_i32_1475
  let v1827 : BitVec 32 := Scalar.addi c0_i32_1476 v1826
  v1827.toNat
def k0_dev78 (d0 : Dev nD) : Nat :=
  let c0_i32_1493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1481 : BitVec 32 := 16#32
  let v1836 : BitVec 32 := Scalar.addi v2 c16_i32_1481
  let c32_i32_1482 : BitVec 32 := 32#32
  let c0_i32_1483 : BitVec 32 := 0#32
  let v1837 : BitVec 1 := Scalar.cmpi .eq c32_i32_1482 c0_i32_1483
  let c1_i32_1484 : BitVec 32 := 1#32
  let v1838 : BitVec 32 := Scalar.select v1837 c1_i32_1484 c32_i32_1482
  let v1839 : BitVec 32 := Scalar.remsi v1836 v1838
  let c0_i32_1486 : BitVec 32 := 0#32
  let v1841 : BitVec 1 := Scalar.cmpi .slt v1839 c0_i32_1486
  let c0_i32_1487 : BitVec 32 := 0#32
  let v1842 : BitVec 1 := Scalar.cmpi .slt v1838 c0_i32_1487
  let v1843 : BitVec 1 := Scalar.xori v1841 v1842
  let c0_i32_1485 : BitVec 32 := 0#32
  let v1840 : BitVec 1 := Scalar.cmpi .ne v1839 c0_i32_1485
  let v1844 : BitVec 1 := Scalar.andi v1843 v1840
  let v1845 : BitVec 32 := Scalar.addi v1839 v1838
  let v1846 : BitVec 32 := Scalar.select v1844 v1845 v1839
  let c1_i32_1492 : BitVec 32 := 1#32
  let v1847 : BitVec 32 := Scalar.muli v1846 c1_i32_1492
  let v1848 : BitVec 32 := Scalar.addi c0_i32_1493 v1847
  v1848.toNat
def k0_dev79 (d0 : Dev nD) : Nat :=
  let c0_i32_1510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1498 : BitVec 32 := 17#32
  let v1857 : BitVec 32 := Scalar.addi v2 c17_i32_1498
  let c32_i32_1499 : BitVec 32 := 32#32
  let c0_i32_1500 : BitVec 32 := 0#32
  let v1858 : BitVec 1 := Scalar.cmpi .eq c32_i32_1499 c0_i32_1500
  let c1_i32_1501 : BitVec 32 := 1#32
  let v1859 : BitVec 32 := Scalar.select v1858 c1_i32_1501 c32_i32_1499
  let v1860 : BitVec 32 := Scalar.remsi v1857 v1859
  let c0_i32_1503 : BitVec 32 := 0#32
  let v1862 : BitVec 1 := Scalar.cmpi .slt v1860 c0_i32_1503
  let c0_i32_1504 : BitVec 32 := 0#32
  let v1863 : BitVec 1 := Scalar.cmpi .slt v1859 c0_i32_1504
  let v1864 : BitVec 1 := Scalar.xori v1862 v1863
  let c0_i32_1502 : BitVec 32 := 0#32
  let v1861 : BitVec 1 := Scalar.cmpi .ne v1860 c0_i32_1502
  let v1865 : BitVec 1 := Scalar.andi v1864 v1861
  let v1866 : BitVec 32 := Scalar.addi v1860 v1859
  let v1867 : BitVec 32 := Scalar.select v1865 v1866 v1860
  let c1_i32_1509 : BitVec 32 := 1#32
  let v1868 : BitVec 32 := Scalar.muli v1867 c1_i32_1509
  let v1869 : BitVec 32 := Scalar.addi c0_i32_1510 v1868
  v1869.toNat
def k0_dev80 (d0 : Dev nD) : Nat :=
  let c0_i32_1527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1515 : BitVec 32 := 18#32
  let v1878 : BitVec 32 := Scalar.addi v2 c18_i32_1515
  let c32_i32_1516 : BitVec 32 := 32#32
  let c0_i32_1517 : BitVec 32 := 0#32
  let v1879 : BitVec 1 := Scalar.cmpi .eq c32_i32_1516 c0_i32_1517
  let c1_i32_1518 : BitVec 32 := 1#32
  let v1880 : BitVec 32 := Scalar.select v1879 c1_i32_1518 c32_i32_1516
  let v1881 : BitVec 32 := Scalar.remsi v1878 v1880
  let c0_i32_1520 : BitVec 32 := 0#32
  let v1883 : BitVec 1 := Scalar.cmpi .slt v1881 c0_i32_1520
  let c0_i32_1521 : BitVec 32 := 0#32
  let v1884 : BitVec 1 := Scalar.cmpi .slt v1880 c0_i32_1521
  let v1885 : BitVec 1 := Scalar.xori v1883 v1884
  let c0_i32_1519 : BitVec 32 := 0#32
  let v1882 : BitVec 1 := Scalar.cmpi .ne v1881 c0_i32_1519
  let v1886 : BitVec 1 := Scalar.andi v1885 v1882
  let v1887 : BitVec 32 := Scalar.addi v1881 v1880
  let v1888 : BitVec 32 := Scalar.select v1886 v1887 v1881
  let c1_i32_1526 : BitVec 32 := 1#32
  let v1889 : BitVec 32 := Scalar.muli v1888 c1_i32_1526
  let v1890 : BitVec 32 := Scalar.addi c0_i32_1527 v1889
  v1890.toNat
def k0_dev81 (d0 : Dev nD) : Nat :=
  let c0_i32_1544 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1532 : BitVec 32 := 19#32
  let v1899 : BitVec 32 := Scalar.addi v2 c19_i32_1532
  let c32_i32_1533 : BitVec 32 := 32#32
  let c0_i32_1534 : BitVec 32 := 0#32
  let v1900 : BitVec 1 := Scalar.cmpi .eq c32_i32_1533 c0_i32_1534
  let c1_i32_1535 : BitVec 32 := 1#32
  let v1901 : BitVec 32 := Scalar.select v1900 c1_i32_1535 c32_i32_1533
  let v1902 : BitVec 32 := Scalar.remsi v1899 v1901
  let c0_i32_1537 : BitVec 32 := 0#32
  let v1904 : BitVec 1 := Scalar.cmpi .slt v1902 c0_i32_1537
  let c0_i32_1538 : BitVec 32 := 0#32
  let v1905 : BitVec 1 := Scalar.cmpi .slt v1901 c0_i32_1538
  let v1906 : BitVec 1 := Scalar.xori v1904 v1905
  let c0_i32_1536 : BitVec 32 := 0#32
  let v1903 : BitVec 1 := Scalar.cmpi .ne v1902 c0_i32_1536
  let v1907 : BitVec 1 := Scalar.andi v1906 v1903
  let v1908 : BitVec 32 := Scalar.addi v1902 v1901
  let v1909 : BitVec 32 := Scalar.select v1907 v1908 v1902
  let c1_i32_1543 : BitVec 32 := 1#32
  let v1910 : BitVec 32 := Scalar.muli v1909 c1_i32_1543
  let v1911 : BitVec 32 := Scalar.addi c0_i32_1544 v1910
  v1911.toNat
def k0_dev82 (d0 : Dev nD) : Nat :=
  let c0_i32_1561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1549 : BitVec 32 := 20#32
  let v1920 : BitVec 32 := Scalar.addi v2 c20_i32_1549
  let c32_i32_1550 : BitVec 32 := 32#32
  let c0_i32_1551 : BitVec 32 := 0#32
  let v1921 : BitVec 1 := Scalar.cmpi .eq c32_i32_1550 c0_i32_1551
  let c1_i32_1552 : BitVec 32 := 1#32
  let v1922 : BitVec 32 := Scalar.select v1921 c1_i32_1552 c32_i32_1550
  let v1923 : BitVec 32 := Scalar.remsi v1920 v1922
  let c0_i32_1554 : BitVec 32 := 0#32
  let v1925 : BitVec 1 := Scalar.cmpi .slt v1923 c0_i32_1554
  let c0_i32_1555 : BitVec 32 := 0#32
  let v1926 : BitVec 1 := Scalar.cmpi .slt v1922 c0_i32_1555
  let v1927 : BitVec 1 := Scalar.xori v1925 v1926
  let c0_i32_1553 : BitVec 32 := 0#32
  let v1924 : BitVec 1 := Scalar.cmpi .ne v1923 c0_i32_1553
  let v1928 : BitVec 1 := Scalar.andi v1927 v1924
  let v1929 : BitVec 32 := Scalar.addi v1923 v1922
  let v1930 : BitVec 32 := Scalar.select v1928 v1929 v1923
  let c1_i32_1560 : BitVec 32 := 1#32
  let v1931 : BitVec 32 := Scalar.muli v1930 c1_i32_1560
  let v1932 : BitVec 32 := Scalar.addi c0_i32_1561 v1931
  v1932.toNat
def k0_dev83 (d0 : Dev nD) : Nat :=
  let c0_i32_1578 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1566 : BitVec 32 := 21#32
  let v1941 : BitVec 32 := Scalar.addi v2 c21_i32_1566
  let c32_i32_1567 : BitVec 32 := 32#32
  let c0_i32_1568 : BitVec 32 := 0#32
  let v1942 : BitVec 1 := Scalar.cmpi .eq c32_i32_1567 c0_i32_1568
  let c1_i32_1569 : BitVec 32 := 1#32
  let v1943 : BitVec 32 := Scalar.select v1942 c1_i32_1569 c32_i32_1567
  let v1944 : BitVec 32 := Scalar.remsi v1941 v1943
  let c0_i32_1571 : BitVec 32 := 0#32
  let v1946 : BitVec 1 := Scalar.cmpi .slt v1944 c0_i32_1571
  let c0_i32_1572 : BitVec 32 := 0#32
  let v1947 : BitVec 1 := Scalar.cmpi .slt v1943 c0_i32_1572
  let v1948 : BitVec 1 := Scalar.xori v1946 v1947
  let c0_i32_1570 : BitVec 32 := 0#32
  let v1945 : BitVec 1 := Scalar.cmpi .ne v1944 c0_i32_1570
  let v1949 : BitVec 1 := Scalar.andi v1948 v1945
  let v1950 : BitVec 32 := Scalar.addi v1944 v1943
  let v1951 : BitVec 32 := Scalar.select v1949 v1950 v1944
  let c1_i32_1577 : BitVec 32 := 1#32
  let v1952 : BitVec 32 := Scalar.muli v1951 c1_i32_1577
  let v1953 : BitVec 32 := Scalar.addi c0_i32_1578 v1952
  v1953.toNat
def k0_dev84 (d0 : Dev nD) : Nat :=
  let c0_i32_1595 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1583 : BitVec 32 := 22#32
  let v1962 : BitVec 32 := Scalar.addi v2 c22_i32_1583
  let c32_i32_1584 : BitVec 32 := 32#32
  let c0_i32_1585 : BitVec 32 := 0#32
  let v1963 : BitVec 1 := Scalar.cmpi .eq c32_i32_1584 c0_i32_1585
  let c1_i32_1586 : BitVec 32 := 1#32
  let v1964 : BitVec 32 := Scalar.select v1963 c1_i32_1586 c32_i32_1584
  let v1965 : BitVec 32 := Scalar.remsi v1962 v1964
  let c0_i32_1588 : BitVec 32 := 0#32
  let v1967 : BitVec 1 := Scalar.cmpi .slt v1965 c0_i32_1588
  let c0_i32_1589 : BitVec 32 := 0#32
  let v1968 : BitVec 1 := Scalar.cmpi .slt v1964 c0_i32_1589
  let v1969 : BitVec 1 := Scalar.xori v1967 v1968
  let c0_i32_1587 : BitVec 32 := 0#32
  let v1966 : BitVec 1 := Scalar.cmpi .ne v1965 c0_i32_1587
  let v1970 : BitVec 1 := Scalar.andi v1969 v1966
  let v1971 : BitVec 32 := Scalar.addi v1965 v1964
  let v1972 : BitVec 32 := Scalar.select v1970 v1971 v1965
  let c1_i32_1594 : BitVec 32 := 1#32
  let v1973 : BitVec 32 := Scalar.muli v1972 c1_i32_1594
  let v1974 : BitVec 32 := Scalar.addi c0_i32_1595 v1973
  v1974.toNat
def k0_dev85 (d0 : Dev nD) : Nat :=
  let c0_i32_1612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1600 : BitVec 32 := 23#32
  let v1983 : BitVec 32 := Scalar.addi v2 c23_i32_1600
  let c32_i32_1601 : BitVec 32 := 32#32
  let c0_i32_1602 : BitVec 32 := 0#32
  let v1984 : BitVec 1 := Scalar.cmpi .eq c32_i32_1601 c0_i32_1602
  let c1_i32_1603 : BitVec 32 := 1#32
  let v1985 : BitVec 32 := Scalar.select v1984 c1_i32_1603 c32_i32_1601
  let v1986 : BitVec 32 := Scalar.remsi v1983 v1985
  let c0_i32_1605 : BitVec 32 := 0#32
  let v1988 : BitVec 1 := Scalar.cmpi .slt v1986 c0_i32_1605
  let c0_i32_1606 : BitVec 32 := 0#32
  let v1989 : BitVec 1 := Scalar.cmpi .slt v1985 c0_i32_1606
  let v1990 : BitVec 1 := Scalar.xori v1988 v1989
  let c0_i32_1604 : BitVec 32 := 0#32
  let v1987 : BitVec 1 := Scalar.cmpi .ne v1986 c0_i32_1604
  let v1991 : BitVec 1 := Scalar.andi v1990 v1987
  let v1992 : BitVec 32 := Scalar.addi v1986 v1985
  let v1993 : BitVec 32 := Scalar.select v1991 v1992 v1986
  let c1_i32_1611 : BitVec 32 := 1#32
  let v1994 : BitVec 32 := Scalar.muli v1993 c1_i32_1611
  let v1995 : BitVec 32 := Scalar.addi c0_i32_1612 v1994
  v1995.toNat
def k0_dev86 (d0 : Dev nD) : Nat :=
  let c0_i32_1629 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1617 : BitVec 32 := 24#32
  let v2004 : BitVec 32 := Scalar.addi v2 c24_i32_1617
  let c32_i32_1618 : BitVec 32 := 32#32
  let c0_i32_1619 : BitVec 32 := 0#32
  let v2005 : BitVec 1 := Scalar.cmpi .eq c32_i32_1618 c0_i32_1619
  let c1_i32_1620 : BitVec 32 := 1#32
  let v2006 : BitVec 32 := Scalar.select v2005 c1_i32_1620 c32_i32_1618
  let v2007 : BitVec 32 := Scalar.remsi v2004 v2006
  let c0_i32_1622 : BitVec 32 := 0#32
  let v2009 : BitVec 1 := Scalar.cmpi .slt v2007 c0_i32_1622
  let c0_i32_1623 : BitVec 32 := 0#32
  let v2010 : BitVec 1 := Scalar.cmpi .slt v2006 c0_i32_1623
  let v2011 : BitVec 1 := Scalar.xori v2009 v2010
  let c0_i32_1621 : BitVec 32 := 0#32
  let v2008 : BitVec 1 := Scalar.cmpi .ne v2007 c0_i32_1621
  let v2012 : BitVec 1 := Scalar.andi v2011 v2008
  let v2013 : BitVec 32 := Scalar.addi v2007 v2006
  let v2014 : BitVec 32 := Scalar.select v2012 v2013 v2007
  let c1_i32_1628 : BitVec 32 := 1#32
  let v2015 : BitVec 32 := Scalar.muli v2014 c1_i32_1628
  let v2016 : BitVec 32 := Scalar.addi c0_i32_1629 v2015
  v2016.toNat
def k0_dev87 (d0 : Dev nD) : Nat :=
  let c0_i32_1646 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1634 : BitVec 32 := 25#32
  let v2025 : BitVec 32 := Scalar.addi v2 c25_i32_1634
  let c32_i32_1635 : BitVec 32 := 32#32
  let c0_i32_1636 : BitVec 32 := 0#32
  let v2026 : BitVec 1 := Scalar.cmpi .eq c32_i32_1635 c0_i32_1636
  let c1_i32_1637 : BitVec 32 := 1#32
  let v2027 : BitVec 32 := Scalar.select v2026 c1_i32_1637 c32_i32_1635
  let v2028 : BitVec 32 := Scalar.remsi v2025 v2027
  let c0_i32_1639 : BitVec 32 := 0#32
  let v2030 : BitVec 1 := Scalar.cmpi .slt v2028 c0_i32_1639
  let c0_i32_1640 : BitVec 32 := 0#32
  let v2031 : BitVec 1 := Scalar.cmpi .slt v2027 c0_i32_1640
  let v2032 : BitVec 1 := Scalar.xori v2030 v2031
  let c0_i32_1638 : BitVec 32 := 0#32
  let v2029 : BitVec 1 := Scalar.cmpi .ne v2028 c0_i32_1638
  let v2033 : BitVec 1 := Scalar.andi v2032 v2029
  let v2034 : BitVec 32 := Scalar.addi v2028 v2027
  let v2035 : BitVec 32 := Scalar.select v2033 v2034 v2028
  let c1_i32_1645 : BitVec 32 := 1#32
  let v2036 : BitVec 32 := Scalar.muli v2035 c1_i32_1645
  let v2037 : BitVec 32 := Scalar.addi c0_i32_1646 v2036
  v2037.toNat
def k0_dev88 (d0 : Dev nD) : Nat :=
  let c0_i32_1663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1651 : BitVec 32 := 26#32
  let v2046 : BitVec 32 := Scalar.addi v2 c26_i32_1651
  let c32_i32_1652 : BitVec 32 := 32#32
  let c0_i32_1653 : BitVec 32 := 0#32
  let v2047 : BitVec 1 := Scalar.cmpi .eq c32_i32_1652 c0_i32_1653
  let c1_i32_1654 : BitVec 32 := 1#32
  let v2048 : BitVec 32 := Scalar.select v2047 c1_i32_1654 c32_i32_1652
  let v2049 : BitVec 32 := Scalar.remsi v2046 v2048
  let c0_i32_1656 : BitVec 32 := 0#32
  let v2051 : BitVec 1 := Scalar.cmpi .slt v2049 c0_i32_1656
  let c0_i32_1657 : BitVec 32 := 0#32
  let v2052 : BitVec 1 := Scalar.cmpi .slt v2048 c0_i32_1657
  let v2053 : BitVec 1 := Scalar.xori v2051 v2052
  let c0_i32_1655 : BitVec 32 := 0#32
  let v2050 : BitVec 1 := Scalar.cmpi .ne v2049 c0_i32_1655
  let v2054 : BitVec 1 := Scalar.andi v2053 v2050
  let v2055 : BitVec 32 := Scalar.addi v2049 v2048
  let v2056 : BitVec 32 := Scalar.select v2054 v2055 v2049
  let c1_i32_1662 : BitVec 32 := 1#32
  let v2057 : BitVec 32 := Scalar.muli v2056 c1_i32_1662
  let v2058 : BitVec 32 := Scalar.addi c0_i32_1663 v2057
  v2058.toNat
def k0_dev89 (d0 : Dev nD) : Nat :=
  let c0_i32_1680 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1668 : BitVec 32 := 27#32
  let v2067 : BitVec 32 := Scalar.addi v2 c27_i32_1668
  let c32_i32_1669 : BitVec 32 := 32#32
  let c0_i32_1670 : BitVec 32 := 0#32
  let v2068 : BitVec 1 := Scalar.cmpi .eq c32_i32_1669 c0_i32_1670
  let c1_i32_1671 : BitVec 32 := 1#32
  let v2069 : BitVec 32 := Scalar.select v2068 c1_i32_1671 c32_i32_1669
  let v2070 : BitVec 32 := Scalar.remsi v2067 v2069
  let c0_i32_1673 : BitVec 32 := 0#32
  let v2072 : BitVec 1 := Scalar.cmpi .slt v2070 c0_i32_1673
  let c0_i32_1674 : BitVec 32 := 0#32
  let v2073 : BitVec 1 := Scalar.cmpi .slt v2069 c0_i32_1674
  let v2074 : BitVec 1 := Scalar.xori v2072 v2073
  let c0_i32_1672 : BitVec 32 := 0#32
  let v2071 : BitVec 1 := Scalar.cmpi .ne v2070 c0_i32_1672
  let v2075 : BitVec 1 := Scalar.andi v2074 v2071
  let v2076 : BitVec 32 := Scalar.addi v2070 v2069
  let v2077 : BitVec 32 := Scalar.select v2075 v2076 v2070
  let c1_i32_1679 : BitVec 32 := 1#32
  let v2078 : BitVec 32 := Scalar.muli v2077 c1_i32_1679
  let v2079 : BitVec 32 := Scalar.addi c0_i32_1680 v2078
  v2079.toNat
def k0_dev90 (d0 : Dev nD) : Nat :=
  let c0_i32_1697 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1685 : BitVec 32 := 28#32
  let v2088 : BitVec 32 := Scalar.addi v2 c28_i32_1685
  let c32_i32_1686 : BitVec 32 := 32#32
  let c0_i32_1687 : BitVec 32 := 0#32
  let v2089 : BitVec 1 := Scalar.cmpi .eq c32_i32_1686 c0_i32_1687
  let c1_i32_1688 : BitVec 32 := 1#32
  let v2090 : BitVec 32 := Scalar.select v2089 c1_i32_1688 c32_i32_1686
  let v2091 : BitVec 32 := Scalar.remsi v2088 v2090
  let c0_i32_1690 : BitVec 32 := 0#32
  let v2093 : BitVec 1 := Scalar.cmpi .slt v2091 c0_i32_1690
  let c0_i32_1691 : BitVec 32 := 0#32
  let v2094 : BitVec 1 := Scalar.cmpi .slt v2090 c0_i32_1691
  let v2095 : BitVec 1 := Scalar.xori v2093 v2094
  let c0_i32_1689 : BitVec 32 := 0#32
  let v2092 : BitVec 1 := Scalar.cmpi .ne v2091 c0_i32_1689
  let v2096 : BitVec 1 := Scalar.andi v2095 v2092
  let v2097 : BitVec 32 := Scalar.addi v2091 v2090
  let v2098 : BitVec 32 := Scalar.select v2096 v2097 v2091
  let c1_i32_1696 : BitVec 32 := 1#32
  let v2099 : BitVec 32 := Scalar.muli v2098 c1_i32_1696
  let v2100 : BitVec 32 := Scalar.addi c0_i32_1697 v2099
  v2100.toNat
def k0_dev91 (d0 : Dev nD) : Nat :=
  let c0_i32_1714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1702 : BitVec 32 := 29#32
  let v2109 : BitVec 32 := Scalar.addi v2 c29_i32_1702
  let c32_i32_1703 : BitVec 32 := 32#32
  let c0_i32_1704 : BitVec 32 := 0#32
  let v2110 : BitVec 1 := Scalar.cmpi .eq c32_i32_1703 c0_i32_1704
  let c1_i32_1705 : BitVec 32 := 1#32
  let v2111 : BitVec 32 := Scalar.select v2110 c1_i32_1705 c32_i32_1703
  let v2112 : BitVec 32 := Scalar.remsi v2109 v2111
  let c0_i32_1707 : BitVec 32 := 0#32
  let v2114 : BitVec 1 := Scalar.cmpi .slt v2112 c0_i32_1707
  let c0_i32_1708 : BitVec 32 := 0#32
  let v2115 : BitVec 1 := Scalar.cmpi .slt v2111 c0_i32_1708
  let v2116 : BitVec 1 := Scalar.xori v2114 v2115
  let c0_i32_1706 : BitVec 32 := 0#32
  let v2113 : BitVec 1 := Scalar.cmpi .ne v2112 c0_i32_1706
  let v2117 : BitVec 1 := Scalar.andi v2116 v2113
  let v2118 : BitVec 32 := Scalar.addi v2112 v2111
  let v2119 : BitVec 32 := Scalar.select v2117 v2118 v2112
  let c1_i32_1713 : BitVec 32 := 1#32
  let v2120 : BitVec 32 := Scalar.muli v2119 c1_i32_1713
  let v2121 : BitVec 32 := Scalar.addi c0_i32_1714 v2120
  v2121.toNat
def k0_dev92 (d0 : Dev nD) : Nat :=
  let c0_i32_1731 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1719 : BitVec 32 := 30#32
  let v2130 : BitVec 32 := Scalar.addi v2 c30_i32_1719
  let c32_i32_1720 : BitVec 32 := 32#32
  let c0_i32_1721 : BitVec 32 := 0#32
  let v2131 : BitVec 1 := Scalar.cmpi .eq c32_i32_1720 c0_i32_1721
  let c1_i32_1722 : BitVec 32 := 1#32
  let v2132 : BitVec 32 := Scalar.select v2131 c1_i32_1722 c32_i32_1720
  let v2133 : BitVec 32 := Scalar.remsi v2130 v2132
  let c0_i32_1724 : BitVec 32 := 0#32
  let v2135 : BitVec 1 := Scalar.cmpi .slt v2133 c0_i32_1724
  let c0_i32_1725 : BitVec 32 := 0#32
  let v2136 : BitVec 1 := Scalar.cmpi .slt v2132 c0_i32_1725
  let v2137 : BitVec 1 := Scalar.xori v2135 v2136
  let c0_i32_1723 : BitVec 32 := 0#32
  let v2134 : BitVec 1 := Scalar.cmpi .ne v2133 c0_i32_1723
  let v2138 : BitVec 1 := Scalar.andi v2137 v2134
  let v2139 : BitVec 32 := Scalar.addi v2133 v2132
  let v2140 : BitVec 32 := Scalar.select v2138 v2139 v2133
  let c1_i32_1730 : BitVec 32 := 1#32
  let v2141 : BitVec 32 := Scalar.muli v2140 c1_i32_1730
  let v2142 : BitVec 32 := Scalar.addi c0_i32_1731 v2141
  v2142.toNat
def k0_dev93 (d0 : Dev nD) : Nat :=
  let c0_i32_1748 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1736 : BitVec 32 := 31#32
  let v2151 : BitVec 32 := Scalar.addi v2 c31_i32_1736
  let c32_i32_1737 : BitVec 32 := 32#32
  let c0_i32_1738 : BitVec 32 := 0#32
  let v2152 : BitVec 1 := Scalar.cmpi .eq c32_i32_1737 c0_i32_1738
  let c1_i32_1739 : BitVec 32 := 1#32
  let v2153 : BitVec 32 := Scalar.select v2152 c1_i32_1739 c32_i32_1737
  let v2154 : BitVec 32 := Scalar.remsi v2151 v2153
  let c0_i32_1741 : BitVec 32 := 0#32
  let v2156 : BitVec 1 := Scalar.cmpi .slt v2154 c0_i32_1741
  let c0_i32_1742 : BitVec 32 := 0#32
  let v2157 : BitVec 1 := Scalar.cmpi .slt v2153 c0_i32_1742
  let v2158 : BitVec 1 := Scalar.xori v2156 v2157
  let c0_i32_1740 : BitVec 32 := 0#32
  let v2155 : BitVec 1 := Scalar.cmpi .ne v2154 c0_i32_1740
  let v2159 : BitVec 1 := Scalar.andi v2158 v2155
  let v2160 : BitVec 32 := Scalar.addi v2154 v2153
  let v2161 : BitVec 32 := Scalar.select v2159 v2160 v2154
  let c1_i32_1747 : BitVec 32 := 1#32
  let v2162 : BitVec 32 := Scalar.muli v2161 c1_i32_1747
  let v2163 : BitVec 32 := Scalar.addi c0_i32_1748 v2162
  v2163.toNat
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Body.lean ====
/-
  The kernel's body, restated with its repeated steps as one step per neighbour.

  The body signals, sends to and waits for each of the thirty-one other devices in turn. The printed
  program writes each of those out; here each is one step taken at a neighbour's number `r`, and the
  body is the chain of them over the list of all neighbours. The restatement unfolds to the printed
  text.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Gather

open Cert.KernelIdeal Cert.KernelIdeal.Gen
open Idealize.ShloMosaic Idealize.ShloMosaic.TcCoe Idealize.SL.Sem

variable {F : FTy → Type} [FloatOps F]

/-! ## The memrefs and the semaphores -/

abbrev xM : Memref sig .tc .vmem S4096x128 .f32 := Memref.whole cc0_stg0_0
abbrev wM : Memref sig .tc .hbm S4096x2048 .f32 := Memref.whole main_arg1
abbrev oM : Memref sig .tc .vmem S128x2048 .f32 := Memref.whole cc0_stg1_0
abbrev bM : Memref sig .tc .vmem S4096x128 .bf16 := Memref.whole cc0_scratch0
abbrev gM : Memref sig .tc .vmem S128x4096 .bf16 := Memref.whole cc0_scratch1
abbrev vM : Memref sig .tc .vmem S2x512x2048 .f32 := Memref.whole cc0_scratch2
abbrev aM : Memref sig .tc .vmem S32x1x128 .f32 := Memref.whole cc0_scratch3

/-- The number of a neighbour: `r` stands for the device `r + 1` places on. -/
abbrev R := Fin 31

theorem sem_inb (r : R) : ∀ a, (![r.val + 1] : Fin 1 → ℕ) a + S1.size a ≤ S32.size a := by
  revert r; decide
theorem wsem_inb (s : Fin 2) : ∀ a, (![s.val] : Fin 1 → ℕ) a + S1.size a ≤ S2.size a := by
  revert s; decide
theorem amax_inb (n : Fin 32) : ∀ a, (![n.val, 0, 0] : Fin 3 → ℕ) a + S1x1x128.size a ≤ S32x1x128.size a := by
  revert n; decide
theorem wrow_inb (j : Fin 8) : ∀ a, (![512 * j.val, 0] : Fin 2 → ℕ) a + S512x2048.size a ≤ S4096x2048.size a := by
  revert j; decide
theorem wcol_inb (j : Fin 8) : ∀ a, (![0, 512 * j.val] : Fin 2 → ℕ) a + S128x512.size a ≤ S128x4096.size a := by
  revert j; decide
theorem wbuf_inb (s : Fin 2) : ∀ a, (![s.val, 0, 0] : Fin 3 → ℕ) a + S1x512x2048.size a ≤ S2x512x2048.size a := by
  revert s; decide

/-- The runtime's barrier semaphore. -/
abbrev barS : Sem sig := (SemArray.scalar (sig.barrier 0 rfl) : Sems sig S_).sem
/-- Entry `r + 1` of an array of thirty-two semaphores. -/
abbrev semAt (a : DmaSems sig S32) (r : R) : DmaSem sig :=
  ((a.slice (Rect.unit (s := S32) ![r.val + 1] S1.size (sem_inb r))).squeeze S_ squeezes_S1_S_).sem
abbrev sendS (r : R) : DmaSem sig := semAt cc0_scratch4 r
abbrev recvS (r : R) : DmaSem sig := semAt cc0_scratch5 r
abbrev asendS (r : R) : DmaSem sig := semAt cc0_scratch6 r
abbrev arecvS (r : R) : DmaSem sig := semAt cc0_scratch7 r
abbrev wS (s : Fin 2) : DmaSem sig :=
  ((cc0_scratch8.slice (Rect.unit (s := S2) ![s.val] S1.size (wsem_inb s))).squeeze S_ squeezes_S1_S_).sem

/-! ## The devices the body names -/

def sigDev (r : R) : Dev nD → ℕ :=
  ![k0_dev1, k0_dev2, k0_dev3, k0_dev4, k0_dev5, k0_dev6, k0_dev7, k0_dev8, k0_dev9, k0_dev10, k0_dev11, k0_dev12, k0_dev13,
    k0_dev14, k0_dev15, k0_dev16, k0_dev17, k0_dev18, k0_dev19, k0_dev20, k0_dev21, k0_dev22, k0_dev23, k0_dev24, k0_dev25,
    k0_dev26, k0_dev27, k0_dev28, k0_dev29, k0_dev30, k0_dev31] r
def sendDev (r : R) : Dev nD → ℕ :=
  ![k0_dev32, k0_dev33, k0_dev34, k0_dev35, k0_dev36, k0_dev37, k0_dev38, k0_dev39, k0_dev40, k0_dev41, k0_dev42, k0_dev43,
    k0_dev44, k0_dev45, k0_dev46, k0_dev47, k0_dev48, k0_dev49, k0_dev50, k0_dev51, k0_dev52, k0_dev53, k0_dev54, k0_dev55,
    k0_dev56, k0_dev57, k0_dev58, k0_dev59, k0_dev60, k0_dev61, k0_dev62] r
def asendDev (r : R) : Dev nD → ℕ :=
  ![k0_dev63, k0_dev64, k0_dev65, k0_dev66, k0_dev67, k0_dev68, k0_dev69, k0_dev70, k0_dev71, k0_dev72, k0_dev73, k0_dev74,
    k0_dev75, k0_dev76, k0_dev77, k0_dev78, k0_dev79, k0_dev80, k0_dev81, k0_dev82, k0_dev83, k0_dev84, k0_dev85, k0_dev86,
    k0_dev87, k0_dev88, k0_dev89, k0_dev90, k0_dev91, k0_dev92, k0_dev93] r

/-- The device `r + 1` places on from `c`. -/
def nb (c : Dev nD) (r : R) : Dev nD := ⟨(c.val + r.val + 1) % 32, Nat.mod_lt _ (by decide)⟩

theorem sigDev_eq : ∀ (r : R) (c : Dev nD), sigDev r c = (nb c r).val := by decide +kernel
theorem sendDev_eq : ∀ (r : R) (c : Dev nD), sendDev r c = (nb c r).val := by decide +kernel
theorem asendDev_eq : ∀ (r : R) (c : Dev nD), asendDev r c = (nb c r).val := by decide +kernel

theorem sigDev_lt (r : R) (c : Dev nD) : sigDev r c < nD := sigDev_eq r c ▸ (nb c r).isLt
theorem sendDev_lt (r : R) (c : Dev nD) : sendDev r c < nD := sendDev_eq r c ▸ (nb c r).isLt
theorem asendDev_lt (r : R) (c : Dev nD) : asendDev r c < nD := asendDev_eq r c ▸ (nb c r).isLt

/-! ## The slices -/

abbrev row2 (c : Dev nD) (r : R) : Fin 2 → ℕ := k0_off2 c (BitVec.ofNat 32 (1 + r.val))
theorem row2_inb (c : Dev nD) (r : R) : ∀ a, row2 c r a + S128x128.size a ≤ S4096x128.size a := k0_off2_inb c r

/-- The tile of `x` meant for neighbour `r`. -/
abbrev bT (c : Dev nD) (r : R) : Memref sig .tc .vmem S128x128 .bf16 :=
  bM.slice (Rect.unit (s := S4096x128) (row2 c r) S128x128.size (row2_inb c r)) (fun _ => rfl)
/-- The tile of the gathered rows that device `c` fills on its neighbours. -/
abbrev gT (c : Dev nD) : Memref sig .tc .vmem S128x128 .bf16 :=
  gM.slice (Rect.unit (s := S128x4096) (k0_off1 c) S128x128.size (k0_off1_inb c)) (fun _ => rfl)
theorem bT_word (c : Dev nD) (r : R) : (bT c r).view.WordExact :=
  (Memref.isWhole_whole cc0_scratch0).wordExact_slice rfl _ (k0_off2_wordsbf16 c r)
theorem gT_word (c : Dev nD) : (gT c).view.WordExact :=
  (Memref.isWhole_whole cc0_scratch1).wordExact_slice rfl _ (k0_off1_wordsbf16 c)

/-- Row `n` of the table of maxima. -/
abbrev aT (n : Fin 32) : Memref sig .tc .vmem S1x128 .f32 :=
  (aM.slice (Rect.unit (s := S32x1x128) ![n.val, 0, 0] S1x1x128.size (amax_inb n)) (fun _ => rfl)).squeeze S1x128 squeezes_S1x1x128_S1x128
theorem aT_word (n : Fin 32) : (aT n).view.WordExact := (View.wordExact_bits rfl).reshape _ _

/-- Rows `512 * j` to `512 * j + 511` of `w`, and the half of the buffer they are copied to. -/
abbrev wT (j : Fin 8) : Memref sig .tc .hbm S512x2048 .f32 :=
  wM.slice (Rect.unit (s := S4096x2048) ![512 * j.val, 0] S512x2048.size (wrow_inb j)) (fun _ => rfl)
abbrev vT (s : Fin 2) : Memref sig .tc .vmem S512x2048 .f32 :=
  (vM.slice (Rect.unit (s := S2x512x2048) ![s.val, 0, 0] S1x512x2048.size (wbuf_inb s)) (fun _ => rfl)).squeeze S512x2048 squeezes_S1x512x2048_S512x2048
theorem wT_word (j : Fin 8) : (wT j).view.WordExact := View.wordExact_bits rfl
theorem vT_word (s : Fin 2) : (vT s).view.WordExact := (View.wordExact_bits rfl).reshape _ _

abbrev half (j : Fin 8) : Fin 2 := ⟨j.val % 2, Nat.mod_lt _ (by decide)⟩

abbrev rowOf (r : R) : Fin 32 := r.succ

/-! ## The steps -/

abbrev Body (F : FTy → Type) := Prog (TpuEff nD τ sig (Elt F) Λ₀ .tc) PUnit

def sigStep (c : Dev nD) (r : R) (k : Body F) : Body F :=
  .op (.semSignal (Dev.tc (⟨sigDev r c, sigDev_lt r c⟩ : Dev nD)) barS (1#32).toInt) fun _ => k

def sendStep (c : Dev nD) (r : R) (k : Body F) : Body F :=
  .op (.enqueueDma (bT c r) (.remote (Dev.tc (⟨sendDev r c, sendDev_lt r c⟩ : Dev nD)) (gT c) (.dma (sendS r))) (.dma (recvS r))
    (bT_word c r) (gT_word c) ⟨⟨rfl, Or.inl rfl⟩, trivial⟩) fun _ => k

def recvStep (c : Dev nD) (r : R) (k : Body F) : Body F :=
  .op (.waitDma2 (sendS r) (gT c) (bT c r) (gT_word c) (bT_word c r)) fun _ =>
  .op (.waitDma2 (recvS r) (bT c r) (gT c) (bT_word c r) (gT_word c)) fun _ => k

def asendStep (c : Dev nD) (r : R) (k : Body F) : Body F :=
  .op (.enqueueDma (aT 0) (.remote (Dev.tc (⟨asendDev r c, asendDev_lt r c⟩ : Dev nD)) (aT (rowOf r)) (.dma (asendS r))) (.dma (arecvS r))
    (aT_word 0) (aT_word (rowOf r)) ⟨⟨rfl, Or.inl rfl⟩, trivial⟩) fun _ => k

def arecvStep (r : R) (k : Body F) : Body F :=
  .op (.waitDma2 (asendS r) (aT (rowOf r)) (aT 0) (aT_word (rowOf r)) (aT_word 0)) fun _ =>
  .op (.waitDma2 (arecvS r) (aT 0) (aT (rowOf r)) (aT_word 0) (aT_word (rowOf r))) fun _ => k

def fetchStep (j : Fin 8) (k : Body F) : Body F :=
  .op (.enqueueDma (wT j) (.here (vT (half j))) (.dma (wS (half j))) (wT_word j) (vT_word (half j)) ⟨Or.inl rfl, trivial⟩) fun _ => k

abbrev vRect (s : Fin 2) : Rect S2x512x2048 := Rect.unit (s := S2x512x2048) ![s.val, 0, 0] S1x512x2048.size (wbuf_inb s)
abbrev gRect (j : Fin 8) : Rect S128x4096 := Rect.unit (s := S128x4096) ![0, 512 * j.val] S128x512.size (wcol_inb j)

/-- Wait for block `j` of `w`, read it, start on block `j + 2` when there is one, read the matching columns. -/
def chunkStep (j : Fin 8) (k : Vec F S1x512x2048 .f32 → Vec F S128x512 .bf16 → Body F) : Body F :=
  .op (.waitDma2 (wS (half j)) (wT j) (vT (half j)) (wT_word j) (vT_word (half j))) fun _ =>
  .op (.load vM (vRect (half j)).toLoadRect (View.loadsAt_vmem h_S1x512x2048)) fun x =>
  .op (.load gM (gRect j).toLoadRect (View.loadsAt_vmem h_S128x512)) fun y => k x y
def chunkStepF (j j' : Fin 8) (k : Vec F S1x512x2048 .f32 → Vec F S128x512 .bf16 → Body F) : Body F :=
  .op (.waitDma2 (wS (half j)) (wT j) (vT (half j)) (wT_word j) (vT_word (half j))) fun _ =>
  .op (.load vM (vRect (half j)).toLoadRect (View.loadsAt_vmem h_S1x512x2048)) fun x =>
  fetchStep j' (.op (.load gM (gRect j).toLoadRect (View.loadsAt_vmem h_S128x512)) fun y => k x y)

/-- One step of the contraction: the running sum and the product over one block. -/
def accum (a : FVec F S128x2048 .f32) (w : Vec F S1x512x2048 .f32) (x : Vec F S128x512 .bf16) : FVec F S128x2048 .f32 :=
  addf a (matmul dot_S128x512_S512x2048_S128x2048_1_0_0_1_n_n none (extf .f32 x bitsLt_bf16_f32)
    (shapeCast S512x2048 w shapeCasts_S1x512x2048_S512x2048) (constant S128x2048 .f32 0x00000000#32))
def accZero : FVec F S128x2048 .f32 := broadcast S128x2048 (Scalar.ofBits .f32 0x00000000#32 : F .f32)
/-- The result before its scaling: the sum clipped below at zero. -/
def clip (a : FVec F S128x2048 .f32) : FVec F S128x2048 .f32 := maximumf a (broadcast S128x2048 (Scalar.ofBits .f32 0x00000000#32 : F .f32))
/-- The greatest entry, repeated over one row. -/
def rowMax (y : FVec F S128x2048 .f32) : FVec F S1x1x128 .f32 :=
  shapeCast S1x1x128 (broadcast S1x128 (extractAt ![0, 0, 0] (shapeCast S1x1x1
    (multiReduction .maximumf [1, 2] S1 (shapeCast S1x128x2048 y shapeCasts_S128x2048_S1x128x2048) 0xFF800000#32 reduces_S1x128x2048_S1 (.inl rfl) rfl)
    shapeCasts_S1_S1x1x1) inpos_S1x1x1_p0_0_0)) shapeCasts_S1x128_S1x1x128
/-- The result stored: scaled, rounded, clipped and scaled back by the maxima gathered. -/
def finish (y : FVec F S128x2048 .f32) (A : Vec F S32x1x128 .f32) : FVec F S128x2048 .f32 :=
  k0_pay1 (k0_pay12 A) (k0_pay13 y A) (Scalar.ofBits .f32 0xC2FE0000#32)

def offs : List R := [0, 1, 2, 3, 4, 5, 6, 7, 8, 9, 10, 11, 12, 13, 14, 15, 16, 17, 18, 19, 20, 21, 22, 23, 24, 25, 26, 27, 28, 29, 30]

abbrev xRect : Rect S4096x128 := Rect.unit (s := S4096x128) ![0, 0] S4096x128.size inb_S4096x128_S4096x128_0_0
abbrev oRect : Rect S128x2048 := Rect.unit (s := S128x2048) ![0, 0] S128x2048.size inb_S128x2048_S128x2048_0_0
abbrev a0Rect : Rect S32x1x128 := Rect.unit (s := S32x1x128) ![0, 0, 0] S1x1x128.size inb_S32x1x128_S1x1x128_0_0_0
abbrev aRect : Rect S32x1x128 := Rect.unit (s := S32x1x128) ![0, 0, 0] S32x1x128.size inb_S32x1x128_S32x1x128_0_0_0
abbrev ownB (c : Dev nD) : Rect S4096x128 := Rect.unit (s := S4096x128) (k0_off3 c) S128x128.size (k0_off3_inb c)
abbrev ownG (c : Dev nD) : Rect S128x4096 := Rect.unit (s := S128x4096) (k0_off4 c) S128x128.size (k0_off4_inb c)

/-! ## The body, from its end back to its start -/

/-- The last part: all maxima read, the result written. -/
def partE (y : FVec F S128x2048 .f32) : Body F :=
  .op (.load aM aRect.toLoadRect (View.loadsAt_vmem h_S32x1x128)) fun A =>
  .op (.load oM oRect.toLoadRect (View.loadsAt_vmem h_S128x2048)) fun _ =>
  .op (.store oM oRect (finish y A) Finset.univ (View.stores_vmem_bits_univ h_S128x2048 rfl) (.inl rfl)) fun _ => .ret ⟨⟩

/-- The exchange of maxima. -/
def partD (c : Dev nD) (y : FVec F S128x2048 .f32) : Body F :=
  .op (.load aM a0Rect.toLoadRect (View.loadsAt_vmem h_S1x1x128)) fun _ =>
  .op (.store aM a0Rect (rowMax y) Finset.univ (View.stores_vmem_bits_univ h_S1x1x128 rfl) (.inl rfl)) fun _ =>
  offs.foldr (asendStep c) (offs.foldr arecvStep (partE y))

/-- The contraction over the eight blocks of `w`. -/
def partC (c : Dev nD) : Body F :=
  chunkStepF 0 2 fun w0 x0 => chunkStepF 1 3 fun w1 x1 => chunkStepF 2 4 fun w2 x2 => chunkStepF 3 5 fun w3 x3 =>
  chunkStepF 4 6 fun w4 x4 => chunkStepF 5 7 fun w5 x5 => chunkStep 6 fun w6 x6 => chunkStep 7 fun w7 x7 =>
  partD c (clip (accum (accum (accum (accum (accum (accum (accum (accum accZero w0 x0) w1 x1) w2 x2) w3 x3) w4 x4) w5 x5) w6 x6) w7 x7))

/-- The exchange of tiles. -/
def partB (c : Dev nD) : Body F :=
  offs.foldr (sendStep c) <|
  .op (.load bM (ownB c).toLoadRect (View.loadsAt_vmem h_S128x128)) fun t =>
  .op (.load gM (ownG c).toLoadRect (View.loadsAt_vmem h_S128x128)) fun _ =>
  .op (.store gM (ownG c) (k0_pay3 t) Finset.univ (View.stores_vmem h_S128x128 ((Memref.isWhole_whole cc0_scratch1).storeExact_slice rfl _ (k0_off4_packedbf16 c)) (fun _ => rfl)) (.inl rfl)) fun _ =>
  fetchStep 1 (offs.foldr (recvStep c) (partC c))

/-- The handshake and the rounding of `x`. -/
def partA (c : Dev nD) : Body F :=
  offs.foldr (sigStep c) <|
  .op (.semWait barS (31#32).toInt) fun _ =>
  .op (.load xM xRect.toLoadRect (View.loadsAt_vmem h_S4096x128)) fun x =>
  .op (.load bM xRect.toLoadRect (View.loadsAt_vmem h_S4096x128)) fun _ =>
  .op (.store bM xRect (k0_pay2 x) Finset.univ (View.stores_vmem h_S4096x128 ((Memref.isWhole_whole cc0_scratch0).storeExact_slice rfl _ packedbf16_S4096x128_S4096x128_0_0) (fun _ => rfl)) (.inl rfl)) fun _ =>
  fetchStep 0 (partB c)

def bodyProg : Body F := .op .deviceId fun c => partA c

set_option maxRecDepth 100000 in
set_option maxHeartbeats 4000000 in
theorem body_eq : cc0_body (F := F) xM (Memref.isWhole_whole _) wM (Memref.isWhole_whole _) oM (Memref.isWhole_whole _)
    bM (Memref.isWhole_whole _) gM (Memref.isWhole_whole _) vM (Memref.isWhole_whole _) aM (Memref.isWhole_whole _)
    cc0_scratch4 cc0_scratch5 cc0_scratch6 cc0_scratch7 cc0_scratch8 = bodyProg := rfl

end Cert.Gather
-- ==== Proof.Tiles.lean ====
/-
  The pieces of the buffers that travel, and what each buffer holds once they have arrived.
-/
module

public import proofs.«01_k».proof.Proof.Body
public import Idealize.ShloMosaic.Lib.Pipeline.ValueKit.Geometry

@[expose] public section

noncomputable section

namespace Cert.Gather

open Cert.KernelIdeal Cert.KernelIdeal.Gen
open Idealize.ShloMosaic Idealize.ShloMosaic.TcCoe Idealize.SL.Sem

variable {F : FTy → Type} [FloatOps F]

/-! ## Neighbours -/

theorem nb_val (c : Dev nD) (r : R) : (nb c r).val = (c.val + r.val + 1) % 32 := rfl
/-- The device `r + 1` places back from `c`. -/
def pv (c : Dev nD) (r : R) : Dev nD := ⟨(c.val + 31 - r.val) % 32, Nat.mod_lt _ (by decide)⟩
theorem nb_pv : ∀ (c : Dev nD) (r : R), nb (pv c r) r = c := by decide +kernel
theorem pv_nb : ∀ (c : Dev nD) (r : R), pv (nb c r) r = c := by decide +kernel
theorem nb_nb_rev : ∀ (c : Dev nD) (r : R), nb (nb c r) r.rev = c := by decide +kernel
theorem nb_inj : ∀ (c : Dev nD) (r r' : R), nb c r = nb c r' → r = r' := by decide +kernel
theorem pv_inj : ∀ (c : Dev nD) (r r' : R), pv c r = pv c r' → r = r' := by decide +kernel
theorem nb_ne : ∀ (c : Dev nD) (r : R), nb c r ≠ c := by decide +kernel
theorem pv_ne : ∀ (c : Dev nD) (r : R), pv c r ≠ c := by decide +kernel
theorem row2_eq : ∀ (c : Dev nD) (r : R), row2 c r = ![128 * (nb c r).val, 0] := by
  have h : ∀ (c : Dev nD) (r : R), row2 c r 0 = 128 * (nb c r).val ∧ row2 c r 1 = 0 := by decide +kernel
  intro c r
  funext a
  fin_cases a
  · exact (h c r).1
  · exact (h c r).2

/-- The device a number names. -/
def devAt (n : ℕ) : Dev nD := ⟨n % 32, Nat.mod_lt _ (by decide)⟩
theorem devAt_val (c : Dev nD) : devAt c.val = c := Fin.ext (Nat.mod_eq_of_lt c.isLt)

/-! ## The elements of a piece -/

theorem mem_unit {s : Shape} {off size : Fin s.rank → ℕ} (inb : ∀ a, off a + size a ≤ s.size a) (i : s.Idx) :
    i ∈ (Rect.unit off size inb).set ↔ ∀ a, off a ≤ (i a).val ∧ (i a).val < off a + size a := by
  rw [LoadRect.mem_set]
  refine forall_congr' fun a => ⟨fun ⟨j, hj, h⟩ => ?_, fun ⟨h1, h2⟩ => ⟨(i a).val - off a, ?_, ?_⟩⟩
  · change (i a).val = off a + 1 * j at h; change j < size a at hj; omega
  · show _ < size a; omega
  · show _ = off a + 1 * _; omega

theorem mem_gT (c : Dev nD) (i : S128x4096.Idx) : i ∈ (gT c).view.set ↔ (i 1).val / 128 = c.val := by
  have h0 := (i 0).isLt; have h1 := (i 1).isLt; have hc := c.isLt
  change (i 0).val < 128 at h0; change (i 1).val < 4096 at h1
  refine ValueKit.mem_set_slice_whole_iff cc0_scratch1 _ i ((mem_unit _ i).trans ?_)
  rw [k0_off1_eq, Fin.forall_fin_two]
  show (0 ≤ (i 0).val ∧ (i 0).val < 0 + 128) ∧ (128 * c.val ≤ (i 1).val ∧ (i 1).val < 128 * c.val + 128) ↔ _
  omega

theorem mem_ownG (c : Dev nD) (i : S128x4096.Idx) : i ∈ (gM.access (ownG c)).set ↔ (i 1).val / 128 = c.val := by
  have h0 := (i 0).isLt; have h1 := (i 1).isLt; have hc := c.isLt
  change (i 0).val < 128 at h0; change (i 1).val < 4096 at h1
  refine ValueKit.mem_set_slice_whole_iff cc0_scratch1 _ i ((mem_unit _ i).trans ?_)
  rw [k0_off4_eq, Fin.forall_fin_two]
  show (0 ≤ (i 0).val ∧ (i 0).val < 0 + 128) ∧ (128 * c.val ≤ (i 1).val ∧ (i 1).val < 128 * c.val + 128) ↔ _
  omega

theorem mem_bT (c : Dev nD) (r : R) (i : S4096x128.Idx) : i ∈ (bT c r).view.set ↔ (i 0).val / 128 = (nb c r).val := by
  have h0 := (i 0).isLt; have h1 := (i 1).isLt; have hc := c.isLt
  change (i 0).val < 4096 at h0; change (i 1).val < 128 at h1
  refine ValueKit.mem_set_slice_whole_iff cc0_scratch0 _ i ((mem_unit _ i).trans ?_)
  rw [row2_eq, Fin.forall_fin_two]
  show (128 * (nb c r).val ≤ (i 0).val ∧ (i 0).val < 128 * (nb c r).val + 128) ∧ (0 ≤ (i 1).val ∧ (i 1).val < 0 + 128) ↔ _
  omega

theorem mem_ownB (c : Dev nD) (i : S4096x128.Idx) : i ∈ (bM.access (ownB c)).set ↔ (i 0).val / 128 = c.val := by
  have h0 := (i 0).isLt; have h1 := (i 1).isLt; have hc := c.isLt
  change (i 0).val < 4096 at h0; change (i 1).val < 128 at h1
  refine ValueKit.mem_set_slice_whole_iff cc0_scratch0 _ i ((mem_unit _ i).trans ?_)
  rw [k0_off3_eq, Fin.forall_fin_two]
  show (128 * c.val ≤ (i 0).val ∧ (i 0).val < 128 * c.val + 128) ∧ (0 ≤ (i 1).val ∧ (i 1).val < 0 + 128) ↔ _
  omega

theorem mem_wT (j : Fin 8) (i : S4096x2048.Idx) : i ∈ (wT j).view.set ↔ (i 0).val / 512 = j.val := by
  have h0 := (i 0).isLt; have h1 := (i 1).isLt; have hj := j.isLt
  change (i 0).val < 4096 at h0; change (i 1).val < 2048 at h1
  refine ValueKit.mem_set_slice_whole_iff main_arg1 _ i ((mem_unit _ i).trans ?_)
  rw [Fin.forall_fin_two]
  show (512 * j.val ≤ (i 0).val ∧ (i 0).val < 512 * j.val + 512) ∧ (0 ≤ (i 1).val ∧ (i 1).val < 0 + 2048) ↔ _
  omega

theorem mem_vT (s : Fin 2) (i : S2x512x2048.Idx) : i ∈ (vT s).view.set ↔ (i 0).val = s.val := by
  have h0 := (i 0).isLt; have h1 := (i 1).isLt; have h2 := (i 2).isLt
  change (i 0).val < 2 at h0; change (i 1).val < 512 at h1; change (i 2).val < 2048 at h2
  rw [show (vT s).view.set = ((View.whole cc0_scratch2).slice (vRect s)).set from View.set_reshape _ _]
  refine ValueKit.mem_set_slice_whole_iff cc0_scratch2 _ i ((mem_unit _ i).trans ?_)
  rw [Fin.forall_fin_succ, Fin.forall_fin_two]
  show (s.val ≤ (i 0).val ∧ (i 0).val < s.val + 1) ∧ (0 ≤ (i 1).val ∧ (i 1).val < 0 + 512) ∧ (0 ≤ (i 2).val ∧ (i 2).val < 0 + 2048) ↔ _
  omega

theorem mem_aT (n : Fin 32) (i : S32x1x128.Idx) : i ∈ (aT n).view.set ↔ (i 0).val = n.val := by
  have h0 := (i 0).isLt; have h1 := (i 1).isLt; have h2 := (i 2).isLt
  change (i 0).val < 32 at h0; change (i 1).val < 1 at h1; change (i 2).val < 128 at h2
  rw [show (aT n).view.set = ((View.whole cc0_scratch3).slice (Rect.unit (s := S32x1x128) ![n.val, 0, 0] S1x1x128.size (amax_inb n))).set from View.set_reshape _ _]
  refine ValueKit.mem_set_slice_whole_iff cc0_scratch3 _ i ((mem_unit _ i).trans ?_)
  rw [Fin.forall_fin_succ, Fin.forall_fin_two]
  show (n.val ≤ (i 0).val ∧ (i 0).val < n.val + 1) ∧ (0 ≤ (i 1).val ∧ (i 1).val < 0 + 1) ∧ (0 ≤ (i 2).val ∧ (i 2).val < 0 + 128) ↔ _
  omega

/-! ## Contents -/

variable (m : (ℓ : Loc nD τ sig) → Buf (Elt F) ℓ)

/-- The block of `x` staged on device `c`. -/
def xstg (c : Dev nD) : (cc0_stg0_0 : Ref sig .tc).ty.Contents (Elt F) :=
  (win0_0.blk (0 : Fin 1)).view.read (Elt F) (m ((c : Thread nD τ).loc main_arg0))
/-- It rounded. -/
def bAt (c : Dev nD) : (cc0_scratch0 : Ref sig .tc).ty.Contents (Elt F) := k0_pay2 (xstg m c)
/-- The `w` of device `c`. -/
def wAt (c : Dev nD) : (main_arg1 : Ref sig .tc).ty.Contents (Elt F) := m ((c : Thread nD τ).loc main_arg1)

/-- Where the element `i` of the rows gathered on device `c` comes from, in its sender's block. -/
def tileIx (c : Dev nD) (i : S128x4096.Idx) : S4096x128.Idx :=
  Shape.pair ⟨128 * c.val + (i 0).val, by
      have h0 := (i 0).isLt; have hc := c.isLt; change (i 0).val < 128 at h0; change c.val < 32 at hc
      show _ < 4096; omega⟩
    ⟨(i 1).val % 128, Nat.mod_lt _ (by decide)⟩

/-- The rows gathered on device `c`: column block `d` is device `d`'s tile for `c`. -/
def gAt (c : Dev nD) : (cc0_scratch1 : Ref sig .tc).ty.Contents (Elt F) :=
  fun i : S128x4096.Idx => bAt m (devAt ((i 1).val / 128)) (tileIx c i)

def vIx (j : Fin 8) (i : S2x512x2048.Idx) : S4096x2048.Idx :=
  Shape.pair ⟨512 * j.val + (i 1).val, by
      have h0 := (i 1).isLt; have hj := j.isLt; change (i 1).val < 512 at h0; show _ < 4096; omega⟩
    ⟨(i 2).val, (i 2).isLt⟩
/-- The buffer of `w` rows with block `j` in (either half of) it. -/
def vAt (c : Dev nD) (j : Fin 8) : (cc0_scratch2 : Ref sig .tc).ty.Contents (Elt F) :=
  fun i : S2x512x2048.Idx => wAt m c (vIx j i)

/-- The block of `w` as the kernel reads it, and the matching columns of the rows gathered. -/
def wBlk (c : Dev nD) (j : Fin 8) : Vec F S1x512x2048 .f32 := vM.view.readAt (Elt F) (vRect (half j)).toLoadRect (vAt m c j)
def gBlk (c : Dev nD) (j : Fin 8) : Vec F S128x512 .bf16 := gM.view.readAt (Elt F) (gRect j).toLoadRect (gAt m c)

/-- The product, clipped below at zero. -/
def yAt (c : Dev nD) : FVec F S128x2048 .f32 :=
  clip (accum (accum (accum (accum (accum (accum (accum (accum accZero (wBlk m c 0) (gBlk m c 0)) (wBlk m c 1) (gBlk m c 1))
    (wBlk m c 2) (gBlk m c 2)) (wBlk m c 3) (gBlk m c 3)) (wBlk m c 4) (gBlk m c 4)) (wBlk m c 5) (gBlk m c 5))
    (wBlk m c 6) (gBlk m c 6)) (wBlk m c 7) (gBlk m c 7))

/-- The index of a lane in a row of the table of maxima. -/
def lane (i : S32x1x128.Idx) : S1x1x128.Idx := fun a =>
  ⟨if a.val = 2 then (i 2).val else 0, by
    have h := (i 2).isLt; change (i 2).val < 128 at h
    fin_cases a
    · show 0 < 1; omega
    · show 0 < 1; omega
    · exact h⟩

/-- The table of maxima on device `c`: row `n` from the device `n` places back. -/
def aAt (c : Dev nD) : (cc0_scratch3 : Ref sig .tc).ty.Contents (Elt F) :=
  fun i : S32x1x128.Idx => rowMax (yAt m (devAt (c.val + 32 - (i 0).val))) (lane i)

theorem aAt_apply (c : Dev nD) (i : S32x1x128.Idx) : aAt m c i = rowMax (yAt m (devAt (c.val + 32 - (i 0).val))) (lane i) := rfl

/-- What device `c` stores as its result. -/
def outAt (c : Dev nD) : (cc0_stg1_0 : Ref sig .tc).ty.Contents (Elt F) := finish (yAt m c) (aAt m c)

/-! ## What a landing leaves -/

theorem gT_emb (c : Dev nD) (x : S128x128.Idx) (a : Fin 2) : (((gT c).view.emb x : S128x4096.Idx) a).val = (![0, 128 * c.val] : Fin 2 → ℕ) a + (x a).val := by
  have h := ValueKit.view_emb_slice_whole_unit_val cc0_scratch1 (k0_off1 c) S128x128.size (k0_off1_inb c) x a
  exact h.trans (congrArg (· + (x a).val) (congrFun (k0_off1_eq c) a))
theorem bT_emb (c : Dev nD) (r : R) (x : S128x128.Idx) (a : Fin 2) : (((bT c r).view.emb x : S4096x128.Idx) a).val = (![128 * (nb c r).val, 0] : Fin 2 → ℕ) a + (x a).val := by
  have h := ValueKit.view_emb_slice_whole_unit_val cc0_scratch0 (row2 c r) S128x128.size (row2_inb c r) x a
  exact h.trans (congrArg (· + (x a).val) (congrFun (row2_eq c r) a))

/-- A tile arriving from device `c` on its neighbour `r`. -/
theorem land_g (c : Dev nD) (r : R) (fd : (cc0_scratch1 : Ref sig .tc).ty.Contents (Elt F)) (i : S128x4096.Idx) (hi : i ∈ (gT c).view.set) :
    (gT c).view.write (Elt F) fd ((bT c r).view.read (Elt F) (bAt m c)) Finset.univ i = gAt m (nb c r) i := by
  obtain ⟨x, -, rfl⟩ := Finset.mem_map.mp hi
  refine ((gT c).view.write_emb_of_mem (Val := Elt F) fd _ (Finset.mem_univ x)).trans ?_
  show bAt m c ((bT c r).view.emb x) = bAt m (devAt ((((gT c).view.emb x : S128x4096.Idx) 1).val / 128)) (tileIx (nb c r) ((gT c).view.emb x))
  have hx0 := (x 0).isLt; have hx1 := (x 1).isLt
  change (x 0).val < 128 at hx0; change (x 1).val < 128 at hx1
  have e1 := gT_emb c x 1; have e0 := gT_emb c x 0; have b1 := bT_emb c r x 1; have b0 := bT_emb c r x 0
  change _ = 128 * c.val + (x 1).val at e1; change _ = 0 + (x 0).val at e0
  change _ = 0 + (x 1).val at b1; change _ = 128 * (nb c r).val + (x 0).val at b0
  have hd : devAt ((((gT c).view.emb x : S128x4096.Idx) 1).val / 128) = c := by
    rw [e1, show (128 * c.val + (x 1).val) / 128 = c.val by omega, devAt_val]
  rw [hd]
  congr 1
  funext a
  refine Fin.ext ?_
  fin_cases a
  · refine b0.trans ?_
    show _ = 128 * (nb c r).val + (((gT c).view.emb x : S128x4096.Idx) 0).val
    rw [e0]; omega
  · refine b1.trans ?_
    show _ = (((gT c).view.emb x : S128x4096.Idx) 1).val % 128
    rw [e1]; omega

/-- The tile a device keeps. -/
theorem land_own (c : Dev nD) (fd : (cc0_scratch1 : Ref sig .tc).ty.Contents (Elt F)) (i : S128x4096.Idx) (hi : i ∈ (gM.access (ownG c)).set) :
    (gM.access (ownG c)).write (Elt F) fd (k0_pay3 (bM.view.readAt (Elt F) (ownB c).toLoadRect (bAt m c))) Finset.univ i = gAt m c i := by
  obtain ⟨x, -, rfl⟩ := Finset.mem_map.mp hi
  refine ((gM.access (ownG c)).write_emb_of_mem (Val := Elt F) fd _ (Finset.mem_univ x)).trans ?_
  have hs : k0_pay3 (bM.view.readAt (Elt F) (ownB c).toLoadRect (bAt m c)) = bM.view.readAt (Elt F) (ownB c).toLoadRect (bAt m c) := by
    funext y; unfold k0_pay3; simp [shapeCast]
  rw [hs]
  show bAt m c ((ownB c).idx x) = bAt m (devAt ((((gM.access (ownG c)).emb x : S128x4096.Idx) 1).val / 128)) (tileIx c ((gM.access (ownG c)).emb x))
  have hx0 := (x 0).isLt; have hx1 := (x 1).isLt
  change (x 0).val < 128 at hx0; change (x 1).val < 128 at hx1
  have e : ∀ a : Fin 2, (((gM.access (ownG c)).emb x : S128x4096.Idx) a).val = (![0, 128 * c.val] : Fin 2 → ℕ) a + (x a).val := fun a => by
    have h := ValueKit.view_emb_slice_whole_unit_val cc0_scratch1 (k0_off4 c) S128x128.size (k0_off4_inb c) x a
    exact h.trans (congrArg (· + (x a).val) (congrFun (k0_off4_eq c) a))
  have b : ∀ a : Fin 2, (((ownB c).idx x : S4096x128.Idx) a).val = (![128 * c.val, 0] : Fin 2 → ℕ) a + (x a).val := fun a => by
    have h := ValueKit.rect_emb_unit_val (s := S4096x128) (k0_off3 c) S128x128.size (k0_off3_inb c) x a
    exact h.trans (congrArg (· + (x a).val) (congrFun (k0_off3_eq c) a))
  have e1 := e 1; have e0 := e 0; have b1 := b 1; have b0 := b 0
  change _ = 128 * c.val + (x 1).val at e1; change _ = 0 + (x 0).val at e0
  change _ = 0 + (x 1).val at b1; change _ = 128 * c.val + (x 0).val at b0
  have hd : devAt ((((gM.access (ownG c)).emb x : S128x4096.Idx) 1).val / 128) = c := by
    rw [e1, show (128 * c.val + (x 1).val) / 128 = c.val by omega, devAt_val]
  rw [hd]
  congr 1
  funext a
  refine Fin.ext ?_
  fin_cases a
  · refine b0.trans ?_
    show _ = 128 * c.val + (((gM.access (ownG c)).emb x : S128x4096.Idx) 0).val
    rw [e0]; omega
  · refine b1.trans ?_
    show _ = (((gM.access (ownG c)).emb x : S128x4096.Idx) 1).val % 128
    rw [e1]; omega

theorem v_numel : S512x2048.numel = S1x512x2048.numel := by decide +kernel
theorem vT_emb (s : Fin 2) (x : S512x2048.Idx) (a : Fin 3) : (((vT s).view.emb x : S2x512x2048.Idx) a).val = (![s.val, 0, 0] : Fin 3 → ℕ) a + ((Fin.cons ⟨0, Nat.one_pos⟩ x : S1x512x2048.Idx) a).val := by
  have e : ((vT s).view.emb x : S2x512x2048.Idx) = (vRect s).emb (Fin.cons ⟨0, Nat.one_pos⟩ x : S1x512x2048.Idx) := by
    show (vRect s).emb (Shape.reshapeEquiv v_numel x) = _
    rw [show Shape.reshapeEquiv v_numel x = (Fin.cons ⟨0, Nat.one_pos⟩ x : S1x512x2048.Idx) from Shape.reshapeEquiv_cons_one _ x]
  rw [e]
  exact ValueKit.rect_emb_unit_val (s := S2x512x2048) _ _ _ _ a

/-- A block of `w` arriving in its half of the buffer. -/
theorem land_v (c : Dev nD) (j : Fin 8) (fd : (cc0_scratch2 : Ref sig .tc).ty.Contents (Elt F)) (i : S2x512x2048.Idx) (hi : i ∈ (vT (half j)).view.set) :
    (vT (half j)).view.write (Elt F) fd ((wT j).view.read (Elt F) (wAt m c)) Finset.univ i = vAt m c j i := by
  obtain ⟨x, -, rfl⟩ := Finset.mem_map.mp hi
  refine ((vT (half j)).view.write_emb_of_mem (Val := Elt F) fd _ (Finset.mem_univ x)).trans ?_
  show wAt m c ((wT j).view.emb x) = wAt m c (vIx j ((vT (half j)).view.emb x))
  have hw : ∀ a : Fin 2, (((wT j).view.emb x : S4096x2048.Idx) a).val = (![512 * j.val, 0] : Fin 2 → ℕ) a + (x a).val := fun a =>
    ValueKit.view_emb_slice_whole_unit_val main_arg1 _ _ _ x a
  have h1 := vT_emb (half j) x 1; have h2 := vT_emb (half j) x 2; have w0 := hw 0; have w1 := hw 1
  change _ = 0 + (x 0).val at h1; change _ = 0 + (x 1).val at h2
  change _ = 512 * j.val + (x 0).val at w0; change _ = 0 + (x 1).val at w1
  congr 1
  funext a
  refine Fin.ext ?_
  fin_cases a
  · refine w0.trans ?_
    show _ = 512 * j.val + (((vT (half j)).view.emb x : S2x512x2048.Idx) 1).val
    rw [h1]; omega
  · refine w1.trans ?_
    show _ = (((vT (half j)).view.emb x : S2x512x2048.Idx) 2).val
    rw [h2]

theorem aT_emb (n : Fin 32) (x : S1x128.Idx) (a : Fin 3) : (((aT n).view.emb x : S32x1x128.Idx) a).val = (![n.val, 0, 0] : Fin 3 → ℕ) a + ((Fin.cons ⟨0, Nat.one_pos⟩ x : S1x1x128.Idx) a).val := by
  have e : ((aT n).view.emb x : S32x1x128.Idx) = (Rect.unit (s := S32x1x128) ![n.val, 0, 0] S1x1x128.size (amax_inb n)).emb (Fin.cons ⟨0, Nat.one_pos⟩ x : S1x1x128.Idx) := by
    show (Rect.unit (s := S32x1x128) ![n.val, 0, 0] S1x1x128.size (amax_inb n)).emb (Shape.reshapeEquiv (by decide : S1x128.numel = S1x1x128.numel) x) = _
    rw [show Shape.reshapeEquiv (by decide : S1x128.numel = S1x1x128.numel) x = (Fin.cons ⟨0, Nat.one_pos⟩ x : S1x1x128.Idx) from Shape.reshapeEquiv_cons_one _ x]
  rw [e]
  exact ValueKit.rect_emb_unit_val (s := S32x1x128) _ _ _ _ a

theorem devAt_back : ∀ (c : Dev nD) (r : R), devAt ((nb c r).val + 32 - (r.val + 1)) = c := by decide +kernel
theorem devAt_self : ∀ c : Dev nD, devAt (c.val + 32 - 0) = c := by decide +kernel

/-! ## What the accesses touch -/

theorem setOn_whole (b : Ref sig .tc) (I : Finset b.ty.shape.Idx) : (View.whole b).setOn I = I := Finset.map_refl
theorem sub_ownB (c : Dev nD) : bM.view.setOn (ownB c).toLoadRect.set ⊆ (bM.access (ownB c)).set := by
  rw [show (bM.access (ownB c)).set = (ownB c).set from View.set_slice_whole _ _]
  exact subset_of_eq (setOn_whole _ _)
theorem sub_ownG (c : Dev nD) : gM.view.setOn (ownG c).toLoadRect.set ⊆ (gM.access (ownG c)).set := by
  rw [show (gM.access (ownG c)).set = (ownG c).set from View.set_slice_whole _ _]
  exact subset_of_eq (setOn_whole _ _)
theorem sub_vRect (s : Fin 2) : vM.view.setOn (vRect s).toLoadRect.set ⊆ (vT s).view.set := by
  rw [show (vT s).view.set = (vRect s).set from (View.set_reshape _ _).trans (View.set_slice_whole _ _)]
  exact subset_of_eq (setOn_whole _ _)
theorem sub_a0 : aM.view.setOn a0Rect.toLoadRect.set ⊆ (aT 0).view.set := by
  rw [show (aT 0).view.set = a0Rect.set from (View.set_reshape _ _).trans (View.set_slice_whole _ _)]
  exact subset_of_eq (setOn_whole _ _)
theorem sub_a0' : (aM.access a0Rect).setOn Finset.univ ⊆ (aT 0).view.set := by
  rw [show (aT 0).view.set = a0Rect.set from (View.set_reshape _ _).trans (View.set_slice_whole _ _)]
  exact subset_of_eq (View.set_slice_whole _ _)

end Cert.Gather
-- ==== Proof.Land.lean ====
/-
  The rows of the table of maxima as they arrive.
-/
module

public import proofs.«01_k».proof.Proof.Tiles
public import Idealize.ShloMosaic.Lib.Pipeline.ValueKit.Geometry

@[expose] public section

noncomputable section

namespace Cert.Gather

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- A row copied out of one table into another. -/
theorem land_row (r : R) (A B fd : (cc0_scratch3 : Ref sig .tc).ty.Contents (Elt F))
    (key : ∀ i j : S32x1x128.Idx, (i 0).val = 0 → (j 0).val = r.val + 1 → (i 2).val = (j 2).val → A i = B j)
    (i : S32x1x128.Idx) (hi : i ∈ (aT (rowOf r)).view.set) :
    (aT (rowOf r)).view.write (Elt F) fd ((aT 0).view.read (Elt F) A) Finset.univ i = B i := by
  obtain ⟨x, -, rfl⟩ := Finset.mem_map.mp hi
  refine ((aT (rowOf r)).view.write_emb_of_mem (Val := Elt F) fd _ (Finset.mem_univ x)).trans ?_
  have h0 := aT_emb 0 x 0; have h2 := aT_emb 0 x 2
  have k0 := aT_emb (rowOf r) x 0; have k2 := aT_emb (rowOf r) x 2
  change _ = 0 + 0 at h0; change _ = 0 + (x 1).val at h2
  change _ = (r.val + 1) + 0 at k0; change _ = 0 + (x 1).val at k2
  exact key _ _ h0 k0 (h2.trans k2.symm)

/-- The first row stored. -/
theorem land_row0 (z : FVec F S1x1x128 .f32) (A fd : (cc0_scratch3 : Ref sig .tc).ty.Contents (Elt F)) (i : S32x1x128.Idx) (hi : i ∈ (aT 0).view.set)
    (key : A i = z (lane i)) : (aM.access a0Rect).write (Elt F) fd z Finset.univ i = A i := by
  have hz : (i 0).val = 0 := (mem_aT 0 i).mp hi
  have hi1 := (i 1).isLt; change (i 1).val < 1 at hi1
  have e : ((aM.access a0Rect).emb (lane i) : S32x1x128.Idx) = i := by
    funext a
    refine Fin.ext ?_
    refine (ValueKit.view_emb_slice_whole_unit_val cc0_scratch3 _ _ _ (lane i) a).trans ?_
    fin_cases a
    · show 0 + 0 = (i 0).val; omega
    · show 0 + 0 = (i 1).val; omega
    · show 0 + (i 2).val = (i 2).val; omega
  have h := (aM.access a0Rect).write_emb_of_mem (Val := Elt F) fd z (Finset.mem_univ (lane i))
  rw [e] at h
  rw [key]; exact h

theorem lane_eq (i j : S32x1x128.Idx) (h : (i 2).val = (j 2).val) : lane i = lane j := by
  funext a
  refine Fin.ext ?_
  show (if a.val = 2 then (i 2).val else 0) = if a.val = 2 then (j 2).val else 0
  rw [h]

theorem aAt_row (c : Dev nD) (i : S32x1x128.Idx) (n : ℕ) (h : (i 0).val = n) : aAt m c i = rowMax (yAt m (devAt (c.val + 32 - n))) (lane i) := by
  subst h; exact aAt_apply m c i

theorem aAt_dev (c d : Dev nD) (i : S32x1x128.Idx) (h : devAt (c.val + 32 - (i 0).val) = d) : aAt m c i = rowMax (yAt m d) (lane i) := by
  subst h; exact aAt_apply m c i

/-- A row of maxima arriving from device `c` on its neighbour `r`. -/
theorem land_a (c : Dev nD) (r : R) (fd : (cc0_scratch3 : Ref sig .tc).ty.Contents (Elt F)) (i : S32x1x128.Idx) (hi : i ∈ (aT (rowOf r)).view.set) :
    (aT (rowOf r)).view.write (Elt F) fd ((aT 0).view.read (Elt F) (aAt m c)) Finset.univ i = aAt m (nb c r) i :=
  land_row r (aAt m c) (aAt m (nb c r)) fd (fun i j hi hj hij =>
    (aAt_dev m c c i (by rw [hi]; exact devAt_self c)).trans
      ((congrArg (rowMax (yAt m c)) (lane_eq i j hij)).trans (aAt_dev m (nb c r) c j (by rw [hj]; exact devAt_back c r)).symm)) i hi

/-- The row of maxima a device stores for itself. -/
theorem land_a0 (c : Dev nD) (fd : (cc0_scratch3 : Ref sig .tc).ty.Contents (Elt F)) (i : S32x1x128.Idx) (hi : i ∈ (aT 0).view.set) :
    (aM.access a0Rect).write (Elt F) fd (rowMax (yAt m c)) Finset.univ i = aAt m c i :=
  land_row0 (rowMax (yAt m c)) (aAt m c) fd i hi (aAt_dev m c c i (by rw [(mem_aT 0 i).mp hi]; exact devAt_self c))

end Cert.Gather
-- ==== Proof.Sched.lean ====
/-
  The protocol, cell by cell: who signals which semaphore, in which round, and what the signal hands over.

  * barrier of `c`: one round of 31 units.  Neighbour `r` (the device `r + 1` places on) signals it once and lends with the
    signal the places `c` will write on it: its column block for `c` and row `r + 1` of its table of maxima.
  * send `r` / receive `r`: one round each, of one tile.  The send cell gives the tile sent back to its owner, the receive
    cell gives the column block filled.
  * maxima send `r` / receive `r`: the same for a row of maxima; each of the 31 copies reads a piece of a share of row 0.
  * the two cells for `w`: four rounds each; round `n` of cell `s` gives block `2 n + s` of `w` back and the half `s` of
    the buffer filled.
-/
module

public import proofs.«01_k».proof.Proof.Land
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.SparseCore.Stream
public import Idealize.ShloMosaic.Lib.Tactic

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

abbrev UB : Type := URounds (GSem nD τ sig) R
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-- Tile `r` of the rounded block on device `c`. -/
def bPts (c : Dev nD) (r : R) : sProp 𝕄 := (bT c r).view.loc (c : Thread nD τ) ↦[(bT c r).view.set]{fullShare} bAt m c
/-- Column block `d` of the rows gathered on device `c`. -/
def gPts (c d : Dev nD) (f : Buf (Elt F) ((c : Thread nD τ).loc cc0_scratch1)) : sProp 𝕄 :=
  (gT d).view.loc (c : Thread nD τ) ↦[(gT d).view.set]{fullShare} f
/-- Row `n` of the table of maxima on device `c`. -/
def aPts (c : Dev nD) (n : Fin 32) (q : PosShare TreeShare) (f : Buf (Elt F) ((c : Thread nD τ).loc cc0_scratch3)) : sProp 𝕄 :=
  (aT n).view.loc (c : Thread nD τ) ↦[(aT n).view.set]{q} f
/-- Block `j` of `w` on device `c`. -/
def wPts (c : Dev nD) (j : Fin 8) : sProp 𝕄 := (wT j).view.loc (c : Thread nD τ) ↦[(wT j).view.set]{fullShare} wAt m c
/-- Half `s` of the buffer for `w` on device `c`. -/
def vPts (c : Dev nD) (s : Fin 2) (f : Buf (Elt F) ((c : Thread nD τ).loc cc0_scratch2)) : sProp 𝕄 :=
  (vT s).view.loc (c : Thread nD τ) ↦[(vT s).view.set]{fullShare} f

omit [FloatOps F] in
instance gPts_storable (c d : Dev nD) (f) : BI.Storable (upEmb : UEmb _ 𝕄) (gPts (F := F) c d f) := by unfold gPts; infer_instance
omit [FloatOps F] in
instance aPts_storable (c : Dev nD) (n q f) : BI.Storable (upEmb : UEmb _ 𝕄) (aPts (F := F) c n q f) := by unfold aPts; infer_instance
omit [FloatOps F] in
instance vPts_storable (c : Dev nD) (s f) : BI.Storable (upEmb : UEmb _ 𝕄) (vPts (F := F) c s f) := by unfold vPts; infer_instance
omit [FloatOps F] in
instance wPts_storable (c : Dev nD) (j) : BI.Storable (upEmb : UEmb _ 𝕄) (wPts (F := F) m c j) := by unfold wPts; infer_instance
instance bPts_storable (c : Dev nD) (r) : BI.Storable (upEmb : UEmb _ 𝕄) (bPts (F := F) m c r) := by unfold bPts; infer_instance

/-- Each of the 31 pieces of a share. -/
def piece (r : R) : PosShare TreeShare := pieceOf fullShare 31 (by decide) r

/-! ## The kinds of semaphore -/

inductive Kind where
  | bar
  | send (r : R)
  | recv (r : R)
  | asend (r : R)
  | arecv (r : R)
  | w (s : Fin 2)
  | none
deriving DecidableEq

def kindD (q : ℕ) : Kind :=
  if q < 3 then .none
  else if h : q < 34 then .send ⟨(q - 3) % 31, Nat.mod_lt _ (by decide)⟩
  else if q < 35 then .none
  else if h : q < 66 then .recv ⟨(q - 35) % 31, Nat.mod_lt _ (by decide)⟩
  else if q < 67 then .none
  else if h : q < 98 then .asend ⟨(q - 67) % 31, Nat.mod_lt _ (by decide)⟩
  else if q < 99 then .none
  else if h : q < 130 then .arecv ⟨(q - 99) % 31, Nat.mod_lt _ (by decide)⟩
  else .w ⟨q % 2, Nat.mod_lt _ (by decide)⟩

def kind : SemLoc sig → Kind
  | .dma q => kindD q.val
  | .reg _ => .bar

theorem kind_bar : kind (.reg barS) = .bar := rfl
theorem kind_send : ∀ r, kind (.dma (sendS r)) = .send r := by decide +kernel
theorem kind_recv : ∀ r, kind (.dma (recvS r)) = .recv r := by decide +kernel
theorem kind_asend : ∀ r, kind (.dma (asendS r)) = .asend r := by decide +kernel
theorem kind_arecv : ∀ r, kind (.dma (arecvS r)) = .arecv r := by decide +kernel
theorem kind_w : ∀ s, kind (.dma (wS s)) = .w s := by decide +kernel

abbrev barCell (c : Dev nD) : GSem nD τ sig := ((c : Thread nD τ), .reg barS)
abbrev sendCell (c : Dev nD) (r : R) : GSem nD τ sig := ((c : Thread nD τ), .dma (sendS r))
abbrev recvCell (c : Dev nD) (r : R) : GSem nD τ sig := ((c : Thread nD τ), .dma (recvS r))
abbrev asendCell (c : Dev nD) (r : R) : GSem nD τ sig := ((c : Thread nD τ), .dma (asendS r))
abbrev arecvCell (c : Dev nD) (r : R) : GSem nD τ sig := ((c : Thread nD τ), .dma (arecvS r))
abbrev wCell (c : Dev nD) (s : Fin 2) : GSem nD τ sig := ((c : Thread nD τ), .dma (wS s))

/-! ## The schedule -/

/-- The credit of a tile, of a row of maxima, of a block of `w`. -/
def Nx : ℕ := (gT (0 : Fin 32)).view.dmaCredit
def Na : ℕ := (aT 0).view.dmaCredit
def Nw : ℕ := (vT 0).view.dmaCredit
theorem Nx_pos : 0 < Nx := View.dmaCredit_pos _ (by decide)
theorem Na_pos : 0 < Na := View.dmaCredit_pos _ (by decide)
theorem Nw_pos : 0 < Nw := View.dmaCredit_pos _ (by decide)

/-- The block of `w` that round `n` of cell `s` is about. -/
def blk (n : ℕ) (s : Fin 2) : Fin 8 := ⟨(2 * n + s.val) % 8, Nat.mod_lt _ (by decide)⟩

def dutiesK (n : ℕ) : Kind → Finset R
  | .bar => if n = 0 then Finset.univ else ∅
  | .send _ => if n = 0 then {0} else ∅
  | .recv _ => if n = 0 then {0} else ∅
  | .asend _ => if n = 0 then {0} else ∅
  | .arecv _ => if n = 0 then {0} else ∅
  | .w _ => if n < 4 then {0} else ∅
  | .none => ∅

def amountK : Kind → ℕ
  | .bar => 1
  | .send _ => Nx
  | .recv _ => Nx
  | .asend _ => Na
  | .arecv _ => Na
  | .w _ => Nw
  | .none => 1

theorem amountK_pos : ∀ k, 0 < amountK k := by
  intro k
  cases k <;> first | exact Nx_pos | exact Na_pos | exact Nw_pos | exact Nat.one_pos

/-- What each signal hands over. -/
def payK (c : Dev nD) (n : ℕ) (d : R) : Kind → sProp 𝕄
  | .bar => iprop((∃ f, gPts (nb c d) c f) ∗ ∃ f, aPts (nb c d) (rowOf d) fullShare f)
  | .send r => bPts m c r
  | .recv r => gPts c (pv c r) (gAt m c)
  | .asend r => aPts c 0 (piece r) (aAt m c)
  | .arecv r => aPts c (rowOf r) fullShare (aAt m c)
  | .w s => iprop(wPts m c (blk n s) ∗ vPts c s (vAt m c (blk n s)))
  | .none => iprop(emp)

theorem payK_bar (c : Dev nD) (n : ℕ) (d : R) : payK m c n d .bar = iprop((∃ f, gPts (nb c d) c f) ∗ ∃ f, aPts (nb c d) (rowOf d) fullShare f) := rfl
theorem payK_send (c : Dev nD) (n : ℕ) (d r : R) : payK m c n d (.send r) = bPts m c r := rfl
theorem payK_recv (c : Dev nD) (n : ℕ) (d r : R) : payK m c n d (.recv r) = gPts c (pv c r) (gAt m c) := rfl
theorem payK_asend (c : Dev nD) (n : ℕ) (d r : R) : payK m c n d (.asend r) = aPts c 0 (piece r) (aAt m c) := rfl
theorem payK_arecv (c : Dev nD) (n : ℕ) (d r : R) : payK m c n d (.arecv r) = aPts c (rowOf r) fullShare (aAt m c) := rfl
theorem payK_w (c : Dev nD) (n : ℕ) (d : R) (s : Fin 2) : payK m c n d (.w s) = iprop(wPts m c (blk n s) ∗ vPts c s (vAt m c (blk n s))) := rfl

instance payK_storable (c : Dev nD) (n : ℕ) (d : R) (k : Kind) : BI.Storable (upEmb : UEmb _ 𝕄) (payK m c n d k) := by
  cases k <;> (unfold payK; infer_instance)

def rd : Rounds.Schedule (GSem nD τ sig) R 𝕄 where
  duties g n := if g.1.2 = .tc then dutiesK n (kind g.2) else ∅
  unitless _ := False
  amount g _ _ := amountK (kind g.2)
  payload g n d := payK m g.1.1 n d (kind g.2)
  amount_pos g _ _ _ := amountK_pos _

instance rd_payload_storable (g : GSem nD τ sig) (n : ℕ) (d : R) : BI.Storable (upEmb : UEmb _ 𝕄) ((rd m).payload g n d) :=
  payK_storable m g.1.1 n d (kind g.2)

section Facts
variable {c : Dev nD} {sm : SemLoc sig} {k : Kind}

theorem rd_duties (h : kind sm = k) (n : ℕ) : (rd m).duties ((c : Thread nD τ), sm) n = dutiesK n k := by
  subst h; dsimp only [rd]; exact if_pos rfl
theorem rd_amount (h : kind sm = k) (n : ℕ) (d : R) : (rd m).amount ((c : Thread nD τ), sm) n d = amountK k := by
  subst h; rfl
theorem rd_payload (h : kind sm = k) (n : ℕ) (d : R) : (rd m).payload ((c : Thread nD τ), sm) n d = payK m c n d k := by
  subst h; rfl
/-- A round with one duty. -/
theorem rd_expect_one (h : kind sm = k) (n : ℕ) (hd : dutiesK n k = {0}) : (rd m).expect ((c : Thread nD τ), sm) n = amountK k := by
  unfold Schedule.expect Schedule.amountOf
  rw [rd_duties m h, hd, Finset.sum_singleton, rd_amount m h]
theorem rd_rest_one (h : kind sm = k) (n : ℕ) (hd : dutiesK n k = {0}) :
    bigSep ((rd m).duties ((c : Thread nD τ), sm) n \ ∅) (fun d => (rd m).payload ((c : Thread nD τ), sm) n d) = payK m c n 0 k := by
  rw [Finset.sdiff_empty, rd_duties m h, hd, bigSep_singleton, rd_payload m h]
theorem rd_expect_bar : (rd m).expect (barCell c) 0 = 31 := by
  unfold Schedule.expect Schedule.amountOf
  rw [rd_duties m kind_bar, Finset.sum_congr rfl fun d _ => rd_amount m kind_bar 0 d]
  rfl
theorem rd_rest_bar : bigSep ((rd m).duties (barCell c) 0 \ ∅) (fun d => (rd m).payload (barCell c) 0 d) = bigSep Finset.univ fun d => payK m c 0 d .bar := by
  rw [Finset.sdiff_empty, rd_duties m kind_bar]
  rfl
/-- No round after the last. -/
theorem rd_none (sm : SemLoc sig) (N : ℕ) (hN : ∀ n, N ≤ n → dutiesK n (kind sm) = ∅) : ∀ n, N ≤ n → (rd m).duties ((c : Thread nD τ), sm) n = ∅ :=
  fun n hn => (rd_duties m rfl n).trans (hN n hn)

end Facts

/-- How many rounds a cell has. -/
def lastK : Kind → ℕ
  | .w _ => 4
  | .none => 0
  | _ => 1
theorem dutiesK_none (k : Kind) : ∀ n, lastK k ≤ n → dutiesK n k = ∅ := by
  intro n hn
  cases k <;> simp only [dutiesK, lastK] at hn ⊢ <;> rw [if_neg (by omega)]

/-! ## What a device owes, and the levels -/

def L (g : GSem nD τ sig) : Finset Unit := if g.1.2 = .tc then {()} else ∅
def lvK : Kind → ℕ
  | .bar => 1
  | .recv _ => 2
  | .arecv _ => 3
  | _ => 0
def lv (g : GSem nD τ sig) (_ : Unit) : ℕ := lvK (kind g.2)

theorem L_of_ne (g : GSem nD τ sig) (h : g.1.2 ≠ .tc) : L g = ∅ := if_neg h
theorem L_tc (c : Dev nD) (sm : SemLoc sig) : L ((c : Thread nD τ), sm) = {()} := if_pos rfl

abbrev barD (c : Dev nD) (r : R) : CellTallies nD τ sig Unit := tallyAt (barCell (nb c r)) () 1
abbrev recvD (c : Dev nD) (r : R) : CellTallies nD τ sig Unit := tallyAt (recvCell (nb c r) r) () Nx
abbrev arecvD (c : Dev nD) (r : R) : CellTallies nD τ sig Unit := tallyAt (arecvCell (nb c r) r) () Na

/-- The debts of a list of neighbours, the first on top. -/
def dsum (D : R → CellTallies nD τ sig Unit) : List R → CellTallies nD τ sig Unit
  | [] => 0
  | r :: l => dsum D l + D r

def Oa (c : Dev nD) (l : List R) : CellTallies nD τ sig Unit := dsum (arecvD c) l
def Or (c : Dev nD) (l : List R) : CellTallies nD τ sig Unit := Oa c offs + dsum (recvD c) l
def Ob (c : Dev nD) (l : List R) : CellTallies nD τ sig Unit := Or c offs + dsum (barD c) l
def O₀ (c : Dev nD) : CellTallies nD τ sig Unit := Ob c offs

/-- All that is owed lies above level `n`. -/
def Above (n : ℕ) (O : CellTallies nD τ sig Unit) : Prop := ∀ g u, 0 < O g u → g.1.2 = .tc ∧ n < lv g u

theorem Above.zero (n : ℕ) : Above n 0 := fun g u h => absurd h (lt_irrefl 0)
theorem Above.add {n : ℕ} {O O' : CellTallies nD τ sig Unit} (h : Above n O) (h' : Above n O') : Above n (O + O') := by
  intro g u hp
  rw [Pi.add_apply, Finsupp.add_apply] at hp
  rcases Nat.pos_of_ne_zero (fun h0 : O g u + O' g u = 0 => (by omega : False)) |> fun _ => (by omega : 0 < O g u ∨ 0 < O' g u) with h1 | h1
  · exact h g u h1
  · exact h' g u h1
theorem Above.tally {n : ℕ} {g : GSem nD τ sig} {k : ℕ} (h : g.1.2 = .tc) (h' : n < lv g ()) : Above n (tallyAt g () k) := by
  intro g' u hp
  rw [tallyAt_apply] at hp
  by_cases he : g' = g ∧ u = ()
  · rw [he.1]; exact ⟨h, h'⟩
  · rw [if_neg he] at hp; exact absurd hp (lt_irrefl 0)
theorem Above.dsum {n : ℕ} {D : R → CellTallies nD τ sig Unit} (h : ∀ r, Above n (D r)) : ∀ l, Above n (dsum D l)
  | [] => Above.zero n
  | r :: l => (Above.dsum h l).add (h r)
theorem Above.mono {n n' : ℕ} {O : CellTallies nD τ sig Unit} (h : Above n O) (hn : n' ≤ n) : Above n' O :=
  fun g u hp => ⟨(h g u hp).1, lt_of_le_of_lt hn (h g u hp).2⟩

theorem above_Oa (c : Dev nD) (l : List R) : Above 2 (Oa c l) :=
  Above.dsum (fun r => Above.tally rfl (by unfold lv; rw [kind_arecv]; show 2 < 3; decide)) l
theorem above_Or (c : Dev nD) (l : List R) : Above 1 (Or c l) :=
  ((above_Oa c offs).mono (by decide)).add (Above.dsum (fun r => Above.tally rfl (by unfold lv; rw [kind_recv]; show 1 < 2; decide)) l)
theorem above_Ob (c : Dev nD) (l : List R) : Above 0 (Ob c l) :=
  ((above_Or c offs).mono (by decide)).add (Above.dsum (fun r => Above.tally rfl (by unfold lv; rw [kind_bar]; show 0 < 1; decide)) l)

omit [FloatOps F] in
/-- A wait on a cell below everything owed. -/
theorem mayWait (c : Dev nD) (sm : SemLoc sig) (n : ℕ) (O : CellTallies nD τ sig Unit) (hO : Above n O) (h : lvK (kind sm) ≤ n) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by
      have h1 := (hO g u hg).1
      unfold L; rw [if_pos h1]; exact Finset.mem_singleton_self _)
    (fun p hp => by rw [Finset.mem_singleton.mp hp]; exact h)
    (fun g u hg => (hO g u hg).2)

end Cert.Gather
-- ==== Proof.Steps.lean ====
/-
  The steps of the body, each as one rule: what it takes, what it leaves, the debts before and after.
-/
module

public import proofs.«01_k».proof.Proof.Sched

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The running of a body on device `c`. -/
abbrev run (c : Dev nD) (k : Body F) (Q : PUnit → sProp 𝕄) : sProp 𝕄 :=
  wp frame (wpE (defs₀ (F := F)) 𝒱₀ (c : Thread nD τ) none) Set.univ k Q

/-! ## The cells -/

/-- The semaphores of a device in a row: the scoped ones of the exchange, then the barrier. -/
def csem (k : Fin 131) : SemLoc sig := if h : k.val < 130 then .dma ⟨k.val + 2, by show k.val + 2 < 132; omega⟩ else .reg barS
def semIx : SemLoc sig → Fin 131
  | .dma q => ⟨(q.val - 2) % 131, Nat.mod_lt _ (by decide)⟩
  | .reg _ => ⟨130, by decide⟩
theorem csem_ix_send : ∀ r, csem (semIx (.dma (sendS r))) = .dma (sendS r) := by decide +kernel
theorem csem_ix_recv : ∀ r, csem (semIx (.dma (recvS r))) = .dma (recvS r) := by decide +kernel
theorem csem_ix_asend : ∀ r, csem (semIx (.dma (asendS r))) = .dma (asendS r) := by decide +kernel
theorem csem_ix_arecv : ∀ r, csem (semIx (.dma (arecvS r))) = .dma (arecvS r) := by decide +kernel
theorem csem_ix_w : ∀ s, csem (semIx (.dma (wS s))) = .dma (wS s) := by decide +kernel
theorem csem_ix_bar : csem (semIx (.reg barS)) = .reg barS := by decide +kernel

abbrev kcell (ck : Dev nD × Fin 131) : GSem nD τ sig := ((ck.1 : Thread nD τ), csem ck.2)

/-- Every cell's invariant, under the name the launch gave it, and that its first round is reached. -/
def records (K : Dev nD × Fin 131 → ℕ) : sProp 𝕄 :=
  iprop((bigSep Finset.univ fun ck => cellInv ER (rd m) (K ck) (kcell ck)) ∗ bigSep Finset.univ fun ck => reached ER (kcell ck) 0)

/-- What every step may use: the cells and the levels. -/
def ctx (K : Dev nD × Fin 131 → ℕ) : sProp 𝕄 := iprop(records m K ∗ levAts L lv)

instance records_persistent (K : Dev nD × Fin 131 → ℕ) : BI.Persistent (records m K) := by unfold records; infer_instance
instance ctx_persistent (K : Dev nD × Fin 131 → ℕ) : BI.Persistent (ctx m K) := by unfold ctx; infer_instance

variable (K : Dev nD × Fin 131 → ℕ)

omit [FloatOps F] in
theorem bigSep_at {I : Type} [Fintype I] [DecidableEq I] (Φ : I → sProp 𝕄) (i : I) : bigSep Finset.univ Φ ⊢ Φ i := BI.bigSep_elim (Finset.mem_univ i)

theorem ctx_inv (c : Dev nD) (sm : SemLoc sig) (h : csem (semIx sm) = sm) : ctx m K ⊢ cellInv ER (rd m) (K (c, semIx sm)) ((c : Thread nD τ), sm) := by
  unfold ctx records
  have e : kcell (c, semIx sm) = ((c : Thread nD τ), sm) := by show ((c : Thread nD τ), csem (semIx sm)) = _; rw [h]
  iintro ⟨⟨H, -⟩, -⟩
  ihave H' := (bigSep_at (fun ck => (cellInv ER (rd m) (K ck) (kcell ck) : sProp 𝕄)) (c, semIx sm)) $$ H
  rw [← e]; iexact H'
theorem ctx_reached (c : Dev nD) (sm : SemLoc sig) (h : csem (semIx sm) = sm) : ctx m K ⊢ reached ER ((c : Thread nD τ), sm) 0 := by
  unfold ctx records
  have e : kcell (c, semIx sm) = ((c : Thread nD τ), sm) := by show ((c : Thread nD τ), csem (semIx sm)) = _; rw [h]
  iintro ⟨⟨-, H⟩, -⟩
  ihave H' := (bigSep_at (fun ck => (reached ER (kcell ck) 0 : sProp 𝕄)) (c, semIx sm)) $$ H
  rw [← e]; iexact H'
theorem ctx_lev : ctx m K ⊢ levAts L lv := by unfold ctx; iintro ⟨-, H⟩; iexact H

theorem ctx_wait (c : Dev nD) (sm : SemLoc sig) (b : ℕ) (O : CellTallies nD τ sig Unit) (hb : Above b O) (hl : lvK (kind sm) ≤ b) :
    ctx m K ⊢ MayWait (c : Thread nD τ) sm () O := by
  unfold ctx
  iintro ⟨-, H⟩
  iapply (mayWait c sm b O hb hl)
  iexact H

/-- What device `c` owes, whatever it waits for. -/
def ow (c : Dev nD) (O : CellTallies nD τ sig Unit) : sProp 𝕄 := iprop(∃ W, owes (c : Thread nD τ) O W)

/-! ## Lists of steps -/

def sepL (f : R → sProp 𝕄) : List R → sProp 𝕄
  | [] => iprop(emp)
  | r :: l => iprop(f r ∗ sepL f l)

omit [FloatOps F] in
theorem bigSep_sepL (f : R → sProp 𝕄) : ∀ l : List R, l.Nodup → bigSep l.toFinset f = sepL f l
  | [], _ => by rw [List.toFinset_nil, BI.bigSep_empty]; rfl
  | r :: l, h => by
    rw [List.toFinset_cons, BI.bigSep_insert (fun h' => (List.nodup_cons.mp h).1 (List.mem_toFinset.mp h')), bigSep_sepL f l (List.nodup_cons.mp h).2]; rfl
omit [FloatOps F] in
theorem bigSep_offs (f : R → sProp 𝕄) : bigSep Finset.univ f = sepL f offs := by
  rw [← bigSep_sepL f offs (by decide)]; congr 1

theorem wp_steps (c : Dev nD) (Q : PUnit → sProp 𝕄) (f : R → Body F → Body F) (A B : R → sProp 𝕄) (Lst : List R → sProp 𝕄)
    (h : ∀ r l k, iprop(A r ∗ Lst (r :: l)) ⊢ iprop(((B r ∗ Lst l) -∗ run c k Q) -∗ run c (f r k) Q)) :
    ∀ (l : List R) (k : Body F), iprop(sepL A l ∗ Lst l) ⊢ iprop(((sepL B l ∗ Lst []) -∗ run c k Q) -∗ run c (l.foldr f k) Q)
  | [], k => by
    iintro ⟨-, H⟩ Hk
    iapply Hk
    isplitr
    · unfold sepL; iempintro
    iexact H
  | r :: l, k => by
    show iprop((A r ∗ sepL A l) ∗ Lst (r :: l)) ⊢ iprop((((B r ∗ sepL B l) ∗ Lst []) -∗ run c k Q) -∗ run c (f r (l.foldr f k)) Q)
    iintro ⟨⟨HA, Hl⟩, HL⟩ Hk
    iapply (h r l (l.foldr f k)) $$ [HA HL]
    · isplitl [HA]; · iexact HA
      iexact HL
    iintro ⟨HB, HL⟩
    iapply (wp_steps c Q f A B Lst h l k) $$ [Hl HL]
    · isplitl [Hl]; · iexact Hl
      iexact HL
    iintro ⟨HBl, HL⟩
    iapply Hk
    isplitl [HB HBl]
    · isplitl [HB]; · iexact HB
      iexact HBl
    iexact HL

/-! ## One signal, one transfer, one wait -/

variable (c : Dev nD)

/-- What a device lends its neighbour `r` with its signal. -/
def lend (r : R) : sProp 𝕄 :=
  iprop((∃ f, gPts c (nb c r) f) ∗ ∃ f, aPts c (rowOf r.rev) fullShare f)

theorem wp_sig (Q : PUnit → sProp 𝕄) (n : Dev nD) (r : R) (hn : n = nb c r) (l : List R) (k : Body F) :
    iprop((dutyTok ER (barCell (nb c r)) 0 r.rev ∗ lend c r) ∗ (ctx m K ∗ ow c (Ob c (r :: l))))
      ⊢ iprop(((emp ∗ (ctx m K ∗ ow c (Ob c l))) -∗ run c k Q)
          -∗ run c (.op (.semSignal (Dev.tc n : Thread nD τ) barS (1#32).toInt) fun _ => k) Q) := by
  subst hn
  unfold ow
  iintro ⟨⟨Ht, Hl⟩, #Hc, ⟨%W, Ho⟩⟩ Hk
  iapply (Rounds.wp_signal 𝒱₀ ER (rd m) (c : Thread nD τ) none (dst := (nb c r : Thread nD τ)) (κ := K (nb c r, semIx (.reg barS)))
      (d := r.rev) (r := 0) (by rw [rd_duties m kind_bar]; exact Finset.mem_univ _) ((rd_amount m kind_bar 0 r.rev).trans (by decide)) () (Ob c l)
      (add_assoc _ _ _).symm) $$ [Ho Ht Hl]
  · isplitr; · iapply (ctx_inv m K (nb c r) (.reg barS) csem_ix_bar); iexact Hc
    isplitl [Ho]; · iexact Ho
    isplitl [Ht]; · iexact Ht
    isplitl [Hl]
    · rw [rd_payload m kind_bar]
      unfold lend
      rw [payK_bar, nb_nb_rev]; iexact Hl
    iapply (ctx_reached m K (nb c r) (.reg barS) csem_ix_bar); iexact Hc
  iintro Ho
  iapply Hk
  isplitr; · iempintro
  isplitr; · iexact Hc
  iexists W; iexact Ho

theorem sig_step (Q : PUnit → sProp 𝕄) (r : R) (l : List R) (k : Body F) :
    iprop((dutyTok ER (barCell (nb c r)) 0 r.rev ∗ lend c r) ∗ (ctx m K ∗ ow c (Ob c (r :: l))))
      ⊢ iprop(((emp ∗ (ctx m K ∗ ow c (Ob c l))) -∗ run c k Q) -∗ run c (sigStep c r k) Q) :=
  wp_sig m K c Q ⟨sigDev r c, sigDev_lt r c⟩ r (Fin.ext (sigDev_eq r c)) l k

/-- A transfer to neighbour `r` on the semaphores `sS`, `sR`, one duty each. -/
theorem wp_xfer (Q : PUnit → sProp 𝕄) (n : Dev nD) (r : R) (hn : n = nb c r) (k : Body F) {s : Shape} {e : EltTy}
    (src dst : Memref sig .tc .vmem s e) (sS sR : DmaSem sig) {ks kr : Kind} (hks : kind (.dma sS) = ks) (hkr : kind (.dma sR) = kr)
    (hds : dutiesK 0 ks = {0}) (hdr : dutiesK 0 kr = {0}) (N : ℕ) (hN : dst.view.dmaCredit = N) (has : amountK ks = N) (har : amountK kr = N)
    (hS : csem (semIx (.dma sS)) = .dma sS) (hR : csem (semIx (.dma sR)) = .dma sR)
    {hsc : (dst : Memref sig (Dev.tc n : Thread nD τ).2.kind .vmem s e).view.ref.isScScratch = false}
    {hsrc : src.view.WordExact} {hdst : dst.view.WordExact}
    {hsem : DmaTarget.Typed .vmem (.dma sR) (.remote (Dev.tc n : Thread nD τ) dst (.dma sS) hsc)}
    (q : PosShare TreeShare) (fs : Buf (Elt F) (src.view.loc (c : Thread nD τ))) (P : sProp 𝕄)
    (hpay : (src.view.loc (c : Thread nD τ) ↦[src.view.set]{q} fs) ⊢ payK m c 0 0 ks)
    (hP : P ⊢ iprop(∃ fd : Buf (Elt F) (dst.view.loc (nb c r : Thread nD τ)), dst.view.loc (nb c r : Thread nD τ) ↦[dst.view.set]{fullShare} fd))
    (hland : ∀ fd : Buf (Elt F) (dst.view.loc (nb c r : Thread nD τ)),
      (dst.view.loc (nb c r : Thread nD τ) ↦[dst.view.set]{fullShare} (dst.view.write (Elt F) fd (src.view.read (Elt F) fs) Finset.univ)) ⊢ payK m (nb c r) 0 0 kr)
    (O₁ O : CellTallies nD τ sig Unit) (hO : O₁ = O + tallyAt ((nb c r : Thread nD τ), .dma sR) () N) :
    iprop(((src.view.loc (c : Thread nD τ) ↦[src.view.set]{q} fs) ∗ P ∗ dutyTok ER ((c : Thread nD τ), .dma sS) 0 0 ∗ dutyTok ER ((nb c r : Thread nD τ), .dma sR) 0 0)
        ∗ (ctx m K ∗ ow c O₁))
      ⊢ iprop(((cred (tallyAt ((c : Thread nD τ), .dma sS) () N) ∗ (ctx m K ∗ ow c O)) -∗ run c k Q)
          -∗ run c (.op (.enqueueDma src (.remote (Dev.tc n : Thread nD τ) dst (.dma sS) hsc) (.dma sR) hsrc hdst hsem) fun _ => k) Q) := by
  subst hn
  unfold ow
  iintro ⟨⟨Hs, Hd, Ht, Ht'⟩, #Hc, ⟨%W, Ho⟩⟩ Hk
  ihave Hd := hP $$ Hd
  icases Hd with ⟨%fd, Hd⟩
  iapply (Rounds.wp_send_pointsTo 𝒱₀ ER (rd m) (c : Thread nD τ) none (κ₁ := K (c, semIx (.dma sS))) (κ₂ := K (nb c r, semIx (.dma sR)))
    (sS := .dma sS) (sem := .dma sR) (r₁ := 0) (r₂ := 0) (d₁ := 0) (d₂ := 0) (fd := fd) (fs := fs) (q := q)
    (by rw [rd_duties m hks, hds]; exact Finset.mem_singleton_self _) (by rw [rd_duties m hkr, hdr]; exact Finset.mem_singleton_self _)
    () () N hN ((rd_amount m hks 0 0).trans has) ((rd_amount m hkr 0 0).trans har) O hO (W := W)
    (by rw [rd_payload m hks]; exact hpay) (by rw [rd_payload m hkr]; exact hland fd)) $$ [Hs Hd Ho Ht Ht']
  · isplitr; · iapply (ctx_inv m K c (.dma sS) hS); iexact Hc
    isplitr; · iapply (ctx_inv m K (nb c r) (.dma sR) hR); iexact Hc
    isplitl [Hs]; · iexact Hs
    isplitl [Hd]; · iexact Hd
    isplitl [Ho]; · iexact Ho
    isplitl [Ht]; · iexact Ht
    isplitr; · iapply (ctx_reached m K c (.dma sS) hS); iexact Hc
    isplitl [Ht']; · iexact Ht'
    iapply (ctx_reached m K (nb c r) (.dma sR) hR); iexact Hc
  iintro ⟨Hcr, Ho⟩
  iapply Hk
  isplitl [Hcr]; · iexact Hcr
  isplitr; · iexact Hc
  iexists W; iexact Ho

/-- A wait for a round of one duty. -/
theorem wp_wait1 (Q : PUnit → sProp 𝕄) (k : Body F) {sp sp' : Space} {s s' : Shape} {e e' : EltTy} (q : DmaSem sig)
    (src : Memref sig .tc sp s e) (dst : Memref sig .tc sp' s' e') {hs : src.view.WordExact} {hd : dst.view.WordExact}
    {kk : Kind} (hkk : kind (.dma q) = kk) (n : ℕ) (hdu : dutiesK n kk = {0}) (N : ℕ) (hN : dst.view.dmaCredit = N) (ha : amountK kk = N)
    (hq : csem (semIx (.dma q)) = .dma q) (O : CellTallies nD τ sig Unit)
    (b : ℕ) (hb : Above b O) (hlb : lvK (kind (.dma q)) ≤ b) :
    iprop(ctx m K ∗ cred (tallyAt ((c : Thread nD τ), .dma q) () N) ∗ ow c O ∗ atPos ER ((c : Thread nD τ), .dma q) n ∅ 0)
      ⊢ iprop(((ow c O ∗ atPos ER ((c : Thread nD τ), .dma q) (n + 1) ∅ 0 ∗ reached ER ((c : Thread nD τ), .dma q) (n + 1) ∗ payK m c n 0 kk) -∗ run c k Q)
          -∗ run c (.op (.waitDma2 q src dst hs hd) fun _ => k) Q) := by
  subst hN
  unfold ow
  iintro ⟨#Hc, Hcr, ⟨%W, Ho⟩, Hat⟩ Hk
  iapply (Rounds.wp_wait_rest_token 𝒱₀ ER (rd m) (c : Thread nD τ) none (κ := K (c, semIx (.dma q)))
      (wpE_waitDma2_eq 𝒱₀ (c : Thread nD τ) none Set.univ) (Set.mem_univ _) () (O := O) (W := W) (R := n) (m := 0) (T := ∅)
      ((Nat.zero_add _).trans (ha.symm.trans (rd_expect_one m hkk n hdu).symm))) $$ [Hcr Ho Hat]
  · isplitr; · iapply (ctx_inv m K c (.dma q) hq); iexact Hc
    isplitl [Hcr]; · iexact Hcr
    isplitl [Ho]; · iexact Ho
    isplitr; · iapply (ctx_wait m K c (.dma q) b O hb hlb); iexact Hc
    iexact Hat
  iintro ⟨Ho, Hat, Hr, Hpay⟩
  ihave Hp := (Entails.of_eq (rd_rest_one m hkk n hdu)) $$ Hpay
  iapply Hk
  isplitl [Ho]; · iexists _; iexact Ho
  isplitl [Hat]; · iexact Hat
  isplitl [Hr]; · iexact Hr
  iexact Hp

/-! ## The steps of the exchanges -/

theorem send_step (Q : PUnit → sProp 𝕄) (r : R) (l : List R) (k : Body F) :
    iprop((bPts m c r ∗ (∃ f, gPts (nb c r) c f) ∗ dutyTok ER (sendCell c r) 0 0 ∗ dutyTok ER (recvCell (nb c r) r) 0 0) ∗ (ctx m K ∗ ow c (Or c (r :: l))))
      ⊢ iprop(((cred (tallyAt (sendCell c r) () Nx) ∗ (ctx m K ∗ ow c (Or c l))) -∗ run c k Q) -∗ run c (sendStep c r k) Q) :=
  wp_xfer m K c Q ⟨sendDev r c, sendDev_lt r c⟩ r (Fin.ext (sendDev_eq r c)) k (bT c r) (gT c) (sendS r) (recvS r) (kind_send r) (kind_recv r)
    rfl rfl Nx rfl rfl rfl (csem_ix_send r) (csem_ix_recv r) fullShare (bAt m c) (iprop(∃ f, gPts (nb c r) c f))
    (BI.Entails.refl _) (BI.Entails.refl _)
    (fun fd => by
      rw [payK_recv, pv_nb]; unfold gPts
      exact Entails.of_eq (pointsTo_congr fun i hi => land_g m c r fd i hi))
    (Or c (r :: l)) (Or c l) (add_assoc _ _ _).symm

theorem asend_step (Q : PUnit → sProp 𝕄) (r : R) (l : List R) (k : Body F) :
    iprop((aPts c 0 (piece r) (aAt m c) ∗ (∃ f, aPts (nb c r) (rowOf r) fullShare f) ∗ dutyTok ER (asendCell c r) 0 0 ∗ dutyTok ER (arecvCell (nb c r) r) 0 0)
        ∗ (ctx m K ∗ ow c (Oa c (r :: l))))
      ⊢ iprop(((cred (tallyAt (asendCell c r) () Na) ∗ (ctx m K ∗ ow c (Oa c l))) -∗ run c k Q) -∗ run c (asendStep c r k) Q) :=
  wp_xfer m K c Q ⟨asendDev r c, asendDev_lt r c⟩ r (Fin.ext (asendDev_eq r c)) k (aT 0) (aT (rowOf r)) (asendS r) (arecvS r) (kind_asend r) (kind_arecv r)
    rfl rfl Na rfl rfl rfl (csem_ix_asend r) (csem_ix_arecv r) (piece r) (aAt m c) (iprop(∃ f, aPts (nb c r) (rowOf r) fullShare f))
    (BI.Entails.refl _) (BI.Entails.refl _)
    (fun fd => Entails.of_eq (pointsTo_congr fun i hi => land_a m c r fd i hi))
    (Oa c (r :: l)) (Oa c l) rfl

theorem recv_step (Q : PUnit → sProp 𝕄) (r : R) (l : List R) (k : Body F) :
    iprop((cred (tallyAt (sendCell c r) () Nx) ∗ cred (tallyAt (recvCell c r) () Nx) ∗ atPos ER (sendCell c r) 0 ∅ 0 ∗ atPos ER (recvCell c r) 0 ∅ 0)
        ∗ (ctx m K ∗ ow c (Oa c offs)))
      ⊢ iprop((((bPts m c r ∗ gPts c (pv c r) (gAt m c) ∗ atPos ER (sendCell c r) 1 ∅ 0 ∗ atPos ER (recvCell c r) 1 ∅ 0) ∗ (ctx m K ∗ ow c (Oa c offs))) -∗ run c k Q)
          -∗ run c (recvStep c r k) Q) := by
  unfold recvStep
  iintro ⟨⟨Hcs, Hcr, Has, Har⟩, #Hc, Ho⟩ Hk
  iapply (wp_wait1 m K c Q _ (sendS r) (gT c) (bT c r) (kind_send r) 0 rfl Nx rfl rfl (csem_ix_send r) (Oa c offs)
    2 (above_Oa c offs) (by rw [kind_send]; show 0 ≤ 2; decide)) $$ [Hcs Ho Has]
  · isplitr; · iexact Hc
    isplitl [Hcs]; · iexact Hcs
    isplitl [Ho]; · iexact Ho
    iexact Has
  iintro ⟨Ho, Has, -, Hb⟩
  iapply (wp_wait1 m K c Q _ (recvS r) (bT c r) (gT c) (kind_recv r) 0 rfl Nx rfl rfl (csem_ix_recv r) (Oa c offs)
    2 (above_Oa c offs) (by rw [kind_recv]; show 2 ≤ 2; decide)) $$ [Hcr Ho Har]
  · isplitr; · iexact Hc
    isplitl [Hcr]; · iexact Hcr
    isplitl [Ho]; · iexact Ho
    iexact Har
  iintro ⟨Ho, Har, -, Hg⟩
  ihave Hb := (Entails.of_eq (payK_send m c 0 0 r)) $$ Hb
  ihave Hg := (Entails.of_eq (payK_recv m c 0 0 r)) $$ Hg
  iapply Hk
  isplitr [Ho]
  · isplitl [Hb]; · iexact Hb
    isplitl [Hg]; · iexact Hg
    isplitl [Has]; · iexact Has
    iexact Har
  isplitr; · iexact Hc
  iexact Ho

theorem arecv_step (Q : PUnit → sProp 𝕄) (r : R) (l : List R) (k : Body F) :
    iprop((cred (tallyAt (asendCell c r) () Na) ∗ cred (tallyAt (arecvCell c r) () Na) ∗ atPos ER (asendCell c r) 0 ∅ 0 ∗ atPos ER (arecvCell c r) 0 ∅ 0)
        ∗ (ctx m K ∗ ow c 0))
      ⊢ iprop((((aPts c 0 (piece r) (aAt m c) ∗ aPts c (rowOf r) fullShare (aAt m c) ∗ atPos ER (asendCell c r) 1 ∅ 0 ∗ atPos ER (arecvCell c r) 1 ∅ 0)
            ∗ (ctx m K ∗ ow c 0)) -∗ run c k Q)
          -∗ run c (arecvStep r k) Q) := by
  unfold arecvStep
  iintro ⟨⟨Hcs, Hcr, Has, Har⟩, #Hc, Ho⟩ Hk
  iapply (wp_wait1 m K c Q _ (asendS r) (aT (rowOf r)) (aT 0) (kind_asend r) 0 rfl Na rfl rfl (csem_ix_asend r) 0 3 (Above.zero 3) (by first | (rw [kind_asend]; show 0 ≤ 3; decide) | (rw [kind_arecv]; show 3 ≤ 3; decide))) $$ [Hcs Ho Has]
  · isplitr; · iexact Hc
    isplitl [Hcs]; · iexact Hcs
    isplitl [Ho]; · iexact Ho
    iexact Has
  iintro ⟨Ho, Has, -, Hb⟩
  iapply (wp_wait1 m K c Q _ (arecvS r) (aT 0) (aT (rowOf r)) (kind_arecv r) 0 rfl Na rfl rfl (csem_ix_arecv r) 0 3 (Above.zero 3) (by first | (rw [kind_asend]; show 0 ≤ 3; decide) | (rw [kind_arecv]; show 3 ≤ 3; decide))) $$ [Hcr Ho Har]
  · isplitr; · iexact Hc
    isplitl [Hcr]; · iexact Hcr
    isplitl [Ho]; · iexact Ho
    iexact Har
  iintro ⟨Ho, Har, -, Hg⟩
  ihave Hb := (Entails.of_eq (payK_asend m c 0 0 r)) $$ Hb
  ihave Hg := (Entails.of_eq (payK_arecv m c 0 0 r)) $$ Hg
  iapply Hk
  isplitr [Ho]
  · isplitl [Hb]; · iexact Hb
    isplitl [Hg]; · iexact Hg
    isplitl [Has]; · iexact Has
    iexact Har
  isplitr; · iexact Hc
  iexact Ho

/-! ## The steps over the blocks of `w` -/

/-- A fetch of block `j` under way in round `n` of its cell, waited for by its owner. -/
def fetching (s : Fin 2) (n : ℕ) : sProp 𝕄 := iprop(cred (tallyAt (wCell c s) () Nw) ∗ atPos ER (wCell c s) n ∅ 0)

theorem fetch_step (Q : PUnit → sProp 𝕄) (j : Fin 8) (n : ℕ) (hn : n < 4) (hj : blk n (half j) = j) (k : Body F) :
    iprop(ctx m K ∗ wPts m c j ∗ (∃ f, vPts c (half j) f) ∗ dutyTok ER (wCell c (half j)) n 0 ∗ reached ER (wCell c (half j)) n)
      ⊢ iprop((cred (tallyAt (wCell c (half j)) () Nw) -∗ run c k Q) -∗ run c (fetchStep j k) Q) := by
  unfold wPts vPts fetchStep
  iintro ⟨#Hc, Hw, ⟨%f, Hv⟩, Ht, Hr⟩ Hk
  iapply (Rounds.wp_copy_pointsTo 𝒱₀ ER (rd m) (c : Thread nD τ) none (κ := K (c, semIx (.dma (wS (half j))))) (src := wT j) (dst := vT (half j))
    (sem := .dma (wS (half j))) (q := fullShare) (fs := wAt m c) (fd := f) (r := n) (d := 0)
    (by rw [rd_duties m (kind_w (half j))]; show (0 : R) ∈ if n < 4 then ({0} : Finset R) else ∅; rw [if_pos hn]; exact Finset.mem_singleton_self _)
    () Nw rfl (rd_amount m (kind_w (half j)) n 0)
    (by
      rw [rd_payload m (kind_w (half j))]
      rw [payK_w, hj]
      unfold wPts vPts
      iintro ⟨Hv, Hw⟩
      isplitl [Hw]; · iexact Hw
      ihave Hv := (Entails.of_eq (pointsTo_congr fun i hi => land_v m c j f i hi)) $$ Hv
      iexact Hv)) $$ [Hw Hv Ht Hr]
  · isplitr; · iapply (ctx_inv m K c _ (csem_ix_w (half j))); iexact Hc
    isplitl [Hw]; · iexact Hw
    isplitl [Hv]; · iexact Hv
    isplitl [Ht]; · iexact Ht
    iexact Hr
  iexact Hk

/-- The rows gathered, whole. -/
def gFull : sProp 𝕄 := ((c : Thread nD τ).loc cc0_scratch1) ↦{fullShare} gAt m c

theorem wait_w (Q : PUnit → sProp 𝕄) (j : Fin 8) (n : ℕ) (hn : n < 4) (hj : blk n (half j) = j) {hs : (wT j).view.WordExact} {hd : (vT (half j)).view.WordExact} (k : Body F) :
    iprop(ctx m K ∗ ow c (Oa c offs) ∗ fetching c (half j) n)
      ⊢ iprop(((ow c (Oa c offs) ∗ atPos ER (wCell c (half j)) (n + 1) ∅ 0 ∗ reached ER (wCell c (half j)) (n + 1) ∗ wPts m c j ∗ vPts c (half j) (vAt m c j)) -∗ run c k Q)
          -∗ run c (.op (.waitDma2 (wS (half j)) (wT j) (vT (half j)) hs hd) fun _ => k) Q) := by
  unfold fetching
  iintro ⟨#Hc, Ho, Hcr, Hat⟩ Hk
  iapply (wp_wait1 m K c Q k (wS (half j)) (wT j) (vT (half j)) (kind_w (half j)) n (if_pos hn) Nw rfl rfl (csem_ix_w (half j)) (Oa c offs)
    2 (above_Oa c offs) (by rw [kind_w]; show 0 ≤ 2; decide)) $$ [Hcr Ho Hat]
  · isplitr; · iexact Hc
    isplitl [Hcr]; · iexact Hcr
    isplitl [Ho]; · iexact Ho
    iexact Hat
  iintro ⟨Ho, Hat, Hr, Hp⟩
  ihave Hp := (Entails.of_eq ((payK_w m c n 0 (half j)).trans (by rw [hj]) : payK m c n 0 (.w (half j)) = iprop(wPts m c j ∗ vPts c (half j) (vAt m c j)))) $$ Hp
  iapply Hk
  isplitl [Ho]; · iexact Ho
  isplitl [Hat]; · iexact Hat
  isplitl [Hr]; · iexact Hr
  iexact Hp

theorem chunkF (Q : PUnit → sProp 𝕄) (j j' : Fin 8) (n : ℕ) (hn : n + 1 < 4) (hj : blk n (half j) = j) (hj' : blk (n + 1) (half j') = j') (hh : half j' = half j)
    (k : Vec F S1x512x2048 .f32 → Vec F S128x512 .bf16 → Body F) :
    iprop(ctx m K ∗ ow c (Oa c offs) ∗ fetching c (half j) n ∗ gFull m c ∗ wPts m c j' ∗ dutyTok ER (wCell c (half j)) (n + 1) 0)
      ⊢ iprop(((ow c (Oa c offs) ∗ fetching c (half j) (n + 1) ∗ gFull m c ∗ wPts m c j) -∗ run c (k (wBlk m c j) (gBlk m c j)) Q)
          -∗ run c (chunkStepF j j' k) Q) := by
  unfold chunkStepF
  iintro ⟨#Hc, Ho, Hf, Hg, Hw', Ht⟩ Hk
  iapply (wait_w m K c Q j n (by omega) hj _) $$ [Ho Hf]
  · isplitr; · iexact Hc
    isplitl [Ho]; · iexact Ho
    iexact Hf
  iintro ⟨Ho, Hat, Hr, Hw, Hv⟩
  unfold vPts
  iapply (wp_load 𝒱₀ (c : Thread nD τ) none Set.univ (m := vM) (sub_vRect (half j))) $$ Hv; iintro Hv
  iapply (fetch_step m K c Q j' (n + 1) hn hj' _) $$ [Hw' Hv Ht Hr]
  · isplitr; · iexact Hc
    isplitl [Hw']; · iexact Hw'
    rw [hh]
    isplitl [Hv]; · iexists _; unfold vPts; iexact Hv
    isplitl [Ht]; · iexact Ht
    iexact Hr
  iintro Hcr
  unfold gFull
  iapply (wp_load 𝒱₀ (c : Thread nD τ) none Set.univ (m := gM) (Finset.subset_univ _)) $$ Hg; iintro Hg
  iapply Hk
  isplitl [Ho]; · iexact Ho
  isplitl [Hcr Hat]
  · unfold fetching
    rw [hh]
    isplitl [Hcr]; · iexact Hcr
    iexact Hat
  isplitl [Hg]; · iexact Hg
  iexact Hw

theorem chunk (Q : PUnit → sProp 𝕄) (j : Fin 8) (n : ℕ) (hn : n < 4) (hj : blk n (half j) = j)
    (k : Vec F S1x512x2048 .f32 → Vec F S128x512 .bf16 → Body F) :
    iprop(ctx m K ∗ ow c (Oa c offs) ∗ fetching c (half j) n ∗ gFull m c)
      ⊢ iprop(((ow c (Oa c offs) ∗ atPos ER (wCell c (half j)) (n + 1) ∅ 0 ∗ (∃ f, vPts c (half j) f) ∗ gFull m c ∗ wPts m c j) -∗ run c (k (wBlk m c j) (gBlk m c j)) Q)
          -∗ run c (chunkStep j k) Q) := by
  unfold chunkStep
  iintro ⟨#Hc, Ho, Hf, Hg⟩ Hk
  iapply (wait_w m K c Q j n hn hj _) $$ [Ho Hf]
  · isplitr; · iexact Hc
    isplitl [Ho]; · iexact Ho
    iexact Hf
  iintro ⟨Ho, Hat, -, Hw, Hv⟩
  unfold vPts
  iapply (wp_load 𝒱₀ (c : Thread nD τ) none Set.univ (m := vM) (sub_vRect (half j))) $$ Hv; iintro Hv
  unfold gFull
  iapply (wp_load 𝒱₀ (c : Thread nD τ) none Set.univ (m := gM) (Finset.subset_univ _)) $$ Hg; iintro Hg
  iapply Hk
  isplitl [Ho]; · iexact Ho
  isplitl [Hat]; · iexact Hat
  isplitl [Hv]; · iexists _; iexact Hv
  isplitl [Hg]; · iexact Hg
  iexact Hw

end Cert.Gather
-- ==== Proof.Split.lean ====
/-
  The buffers cut into the pieces that travel, and put together again.
-/
module

public import proofs.«01_k».proof.Proof.Steps

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## One buffer, cut into pieces told apart by a number -/

section Cut
variable {ℓ : Loc nD τ sig} {T : Type} [Fintype T] [DecidableEq T] (J : T → Finset (Idx ℓ)) (φ : Idx ℓ → ℕ) (κ : T → ℕ)

omit [FloatOps F] [DecidableEq T] in
theorem cut_disjoint (hK : ∀ t i, i ∈ J t ↔ φ i = κ t) (hκ : Function.Injective κ) :
    ∀ t ∈ (Finset.univ : Finset T), ∀ t' ∈ (Finset.univ : Finset T), t ≠ t' → Disjoint (J t) (J t') :=
  fun t _ t' _ hne => Finset.disjoint_left.mpr fun i h h' => hne (hκ (((hK t i).mp h).symm.trans ((hK t' i).mp h')))
omit [FloatOps F] [DecidableEq T] in
theorem cut_cover (hK : ∀ t i, i ∈ J t ↔ φ i = κ t) (hc : ∀ i, ∃ t, φ i = κ t) : (Finset.univ : Finset T).biUnion J = Finset.univ :=
  Finset.eq_univ_of_forall fun i => Finset.mem_biUnion.mpr <| by
    obtain ⟨t, ht⟩ := hc i
    exact ⟨t, Finset.mem_univ t, (hK t i).mpr ht⟩

omit [FloatOps F] [DecidableEq T] in
/-- The buffer is its pieces. -/
theorem cut (hK : ∀ t i, i ∈ J t ↔ φ i = κ t) (hκ : Function.Injective κ) (hc : ∀ i, ∃ t, φ i = κ t) (q : PosShare TreeShare) (f : Buf (Elt F) ℓ) :
    (ℓ ↦{q} f : sProp 𝕄) = bigSep Finset.univ fun t => ℓ ↦[J t]{q} f := by
  rw [← pointsTo_biUnion Finset.univ J (cut_disjoint J φ κ hK hκ), cut_cover J φ κ hK hc]

omit [FloatOps F] in
/-- The pieces, whatever they hold, make the buffer. -/
theorem glue (hK : ∀ t i, i ∈ J t ↔ φ i = κ t) (hκ : Function.Injective κ) (hc : ∀ i, ∃ t, φ i = κ t) (q : PosShare TreeShare) (f₀ : Buf (Elt F) ℓ) :
    (bigSep Finset.univ fun t => iprop(∃ f, ℓ ↦[J t]{q} f)) ⊢ (iprop(∃ f, ℓ ↦{q} f) : sProp 𝕄) := by
  haveI : Nonempty (Buf (Elt F) ℓ) := ⟨f₀⟩
  refine (BI.bigSep_exists_pi (Y := fun _ : T => Buf (Elt F) ℓ) Finset.univ (fun (t : T) (f : Buf (Elt F) ℓ) => (ℓ ↦[J t]{q} f : sProp 𝕄))).trans ?_
  iintro ⟨%fs, H⟩
  ihave H := (pointsTo_biUnion_join Finset.univ J fs f₀ (cut_disjoint J φ κ hK hκ)) $$ H
  icases H with ⟨%g, -, H⟩
  rw [cut_cover J φ κ hK hc]
  iexists g; iexact H
end Cut

/-- Pieces of one owner and one per neighbour. -/
def own31 {α : Type} (a : α) (f : R → α) : Option R → α
  | none => a
  | some r => f r

omit [FloatOps F] in
theorem bigSep_option (Φ : Option R → sProp 𝕄) : bigSep Finset.univ Φ = iprop(Φ none ∗ bigSep Finset.univ fun r => Φ (some r)) := by
  rw [show (Finset.univ : Finset (Option R)) = insert none (Finset.univ.map Function.Embedding.some) by decide,
    BI.bigSep_insert (by decide)]
  rw [BI.bigSep_map]
  rfl

theorem own_inj {a : ℕ} {f : R → ℕ} (hf : ∀ r r', f r = f r' → r = r') (ha : ∀ r, f r ≠ a) : Function.Injective (own31 a f) := by
  intro x y h
  match x, y, h with
  | none, none, _ => rfl
  | none, some r, h => exact absurd h.symm (ha r)
  | some r, none, h => exact absurd h (ha r)
  | some r, some r', h => exact congrArg some (hf r r' h)

theorem nb_cover : ∀ (c : Dev nD) (n : Fin 32), ∃ t, n.val = own31 c.val (fun r => (nb c r).val) t := by decide +kernel
theorem pv_cover : ∀ (c : Dev nD) (n : Fin 32), ∃ t, n.val = own31 c.val (fun r => (pv c r).val) t := by decide +kernel
theorem row_cover : ∀ n : Fin 32, ∃ t, n.val = own31 0 (fun r => (rowOf r).val) t := by decide +kernel

variable (c : Dev nD)

abbrev bLoc : Loc nD τ sig := (c : Thread nD τ).loc cc0_scratch0
abbrev gLoc : Loc nD τ sig := (c : Thread nD τ).loc cc0_scratch1
abbrev vLoc : Loc nD τ sig := (c : Thread nD τ).loc cc0_scratch2
abbrev aLoc : Loc nD τ sig := (c : Thread nD τ).loc cc0_scratch3
abbrev wLoc : Loc nD τ sig := (c : Thread nD τ).loc main_arg1

/-- The tile of the rounded block the device keeps; its column block; the row of maxima it stores. -/
def bOwn : sProp 𝕄 := bLoc c ↦[(bM.access (ownB c)).set]{fullShare} bAt m c
def gOwn (f : Buf (Elt F) (gLoc c)) : sProp 𝕄 := gLoc c ↦[(gM.access (ownG c)).set]{fullShare} f

theorem div32 (n : ℕ) (h : n < 4096) : n / 128 < 32 := by omega
theorem div8 (n : ℕ) (h : n < 4096) : n / 512 < 8 := by omega

theorem cut_b : (bLoc c ↦{fullShare} bAt m c : sProp 𝕄) = iprop(bOwn m c ∗ bigSep Finset.univ fun r => bPts m c r) :=
  (cut (ℓ := bLoc c) (T := Option R) (own31 (bM.access (ownB c)).set fun r => (bT c r).view.set) (fun i => ((i : S4096x128.Idx) 0).val / 128)
    (own31 c.val fun r => (nb c r).val)
    (fun t i => match t with | none => mem_ownB c i | some r => mem_bT c r i)
    (own_inj (fun r r' h => nb_inj c r r' (Fin.ext h)) (fun r h => nb_ne c r (Fin.ext h)))
    (fun i => nb_cover c ⟨_, div32 _ ((i : S4096x128.Idx) 0).isLt⟩) fullShare (bAt m c)).trans (bigSep_option _)

omit [FloatOps F] in
theorem cut_g_nb (f : Buf (Elt F) (gLoc c)) : (gLoc c ↦{fullShare} f : sProp 𝕄) = iprop(gOwn c f ∗ bigSep Finset.univ fun r => gPts c (nb c r) f) :=
  (cut (ℓ := gLoc c) (T := Option R) (own31 (gM.access (ownG c)).set fun r => (gT (nb c r)).view.set) (fun i => ((i : S128x4096.Idx) 1).val / 128)
    (own31 c.val fun r => (nb c r).val)
    (fun t i => match t with | none => mem_ownG c i | some r => mem_gT (nb c r) i)
    (own_inj (fun r r' h => nb_inj c r r' (Fin.ext h)) (fun r h => nb_ne c r (Fin.ext h)))
    (fun i => nb_cover c ⟨_, div32 _ ((i : S128x4096.Idx) 1).isLt⟩) fullShare f).trans (bigSep_option _)

omit [FloatOps F] in
theorem cut_g_pv (f : Buf (Elt F) (gLoc c)) : (gLoc c ↦{fullShare} f : sProp 𝕄) = iprop(gOwn c f ∗ bigSep Finset.univ fun r => gPts c (pv c r) f) :=
  (cut (ℓ := gLoc c) (T := Option R) (own31 (gM.access (ownG c)).set fun r => (gT (pv c r)).view.set) (fun i => ((i : S128x4096.Idx) 1).val / 128)
    (own31 c.val fun r => (pv c r).val)
    (fun t i => match t with | none => mem_ownG c i | some r => mem_gT (pv c r) i)
    (own_inj (fun r r' h => pv_inj c r r' (Fin.ext h)) (fun r h => pv_ne c r (Fin.ext h)))
    (fun i => pv_cover c ⟨_, div32 _ ((i : S128x4096.Idx) 1).isLt⟩) fullShare f).trans (bigSep_option _)

omit [FloatOps F] in
theorem cut_a (f : Buf (Elt F) (aLoc c)) : (aLoc c ↦{fullShare} f : sProp 𝕄) = iprop(aPts c 0 fullShare f ∗ bigSep Finset.univ fun r => aPts c (rowOf r) fullShare f) :=
  (cut (ℓ := aLoc c) (T := Option R) (own31 (aT 0).view.set fun r => (aT (rowOf r)).view.set) (fun i => ((i : S32x1x128.Idx) 0).val)
    (own31 0 fun r => (rowOf r).val)
    (fun t i => match t with | none => mem_aT 0 i | some r => mem_aT (rowOf r) i)
    (own_inj (fun r r' h => Fin.succ_injective 31 (Fin.ext h)) (fun r h => absurd h (Nat.succ_ne_zero _)))
    (fun i => row_cover ⟨_, ((i : S32x1x128.Idx) 0).isLt⟩) fullShare f).trans (bigSep_option _)

theorem cut_a0 : (aPts c 0 fullShare (aAt m c) : sProp 𝕄) = bigSep Finset.univ fun r => aPts c 0 (piece r) (aAt m c) :=
  pointsTo_piecesOf _ _ (by decide) _

omit [FloatOps F] in
theorem cut_w : (wLoc c ↦{fullShare} wAt m c : sProp 𝕄) = bigSep Finset.univ fun j => wPts m c j :=
  cut (ℓ := wLoc c) (T := Fin 8) (fun j => (wT j).view.set) (fun i => ((i : S4096x2048.Idx) 0).val / 512) (fun j => j.val)
    (fun j i => mem_wT j i) Fin.val_injective (fun i => ⟨⟨_, div8 _ ((i : S4096x2048.Idx) 0).isLt⟩, rfl⟩) fullShare (wAt m c)

omit [FloatOps F] in
theorem cut_v (f : Buf (Elt F) (vLoc c)) : (vLoc c ↦{fullShare} f : sProp 𝕄) = bigSep Finset.univ fun s => vPts c s f :=
  cut (ℓ := vLoc c) (T := Fin 2) (fun s => (vT s).view.set) (fun i => ((i : S2x512x2048.Idx) 0).val) (fun s => s.val)
    (fun s i => mem_vT s i) Fin.val_injective (fun i => ⟨⟨_, ((i : S2x512x2048.Idx) 0).isLt⟩, rfl⟩) fullShare f

omit [FloatOps F] in
theorem glue_v (f₀ : Buf (Elt F) (vLoc c)) : (bigSep Finset.univ fun s => iprop(∃ f, vPts c s f)) ⊢ (iprop(∃ f, vLoc c ↦{fullShare} f) : sProp 𝕄) :=
  glue (ℓ := vLoc c) (T := Fin 2) (fun s => (vT s).view.set) (fun i => ((i : S2x512x2048.Idx) 0).val) (fun s => s.val)
    (fun s i => mem_vT s i) Fin.val_injective (fun i => ⟨⟨_, ((i : S2x512x2048.Idx) 0).isLt⟩, rfl⟩) fullShare f₀

end Cert.Gather
-- ==== Proof.Run.lean ====
/-
  The body run, part by part.
-/
module

public import proofs.«01_k».proof.Proof.Split

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Fin 131 → ℕ) (c : Dev nD)

/-! ## Reads and writes of whole buffers -/

theorem hz2 : (![0, 0] : Fin 2 → Nat) = fun _ => 0 := funext fun a => by fin_cases a <;> rfl
theorem hz3 : (![0, 0, 0] : Fin 3 → Nat) = fun _ => 0 := funext fun a => by fin_cases a <;> rfl
omit [FloatOps F] in
theorem read_x (f : (cc0_stg0_0 : Ref sig .tc).ty.Contents (Elt F)) : xM.view.readAt (Elt F) xRect.toLoadRect f = f :=
  Memref.readAt_unit_zero (Elt F) cc0_stg0_0 hz2 _ f
omit [FloatOps F] in
theorem read_a (f : (cc0_scratch3 : Ref sig .tc).ty.Contents (Elt F)) : aM.view.readAt (Elt F) aRect.toLoadRect f = f :=
  Memref.readAt_unit_zero (Elt F) cc0_scratch3 hz3 _ f
omit [FloatOps F] in
theorem write_b (f w : (cc0_scratch0 : Ref sig .tc).ty.Contents (Elt F)) : (bM.access xRect).write (Elt F) f w Finset.univ = w :=
  Memref.write_access_unit_zero_univ (Elt F) cc0_scratch0 hz2 _ f w
omit [FloatOps F] in
theorem write_o (f w : (cc0_stg1_0 : Ref sig .tc).ty.Contents (Elt F)) : (oM.access oRect).write (Elt F) f w Finset.univ = w :=
  Memref.write_access_unit_zero_univ (Elt F) cc0_stg1_0 hz2 _ f w

abbrev xLoc (c : Dev nD) : Loc nD τ sig := (c : Thread nD τ).loc cc0_stg0_0
abbrev oLoc (c : Dev nD) : Loc nD τ sig := (c : Thread nD τ).loc cc0_stg1_0

/-! ## What the steps take and leave, for each neighbour -/

def sigT (r : R) : sProp 𝕄 := dutyTok ER (barCell (nb c r)) 0 r.rev
def sendT (r : R) : sProp 𝕄 := iprop(dutyTok ER (sendCell c r) 0 0 ∗ dutyTok ER (recvCell (nb c r) r) 0 0)
def asendT (r : R) : sProp 𝕄 := iprop(dutyTok ER (asendCell c r) 0 0 ∗ dutyTok ER (arecvCell (nb c r) r) 0 0)
def recvP (r : R) : sProp 𝕄 := iprop(cred (tallyAt (recvCell c r) () Nx) ∗ atPos ER (sendCell c r) 0 ∅ 0 ∗ atPos ER (recvCell c r) 0 ∅ 0)
def arecvP (r : R) : sProp 𝕄 := iprop(cred (tallyAt (arecvCell c r) () Na) ∗ atPos ER (asendCell c r) 0 ∅ 0 ∗ atPos ER (arecvCell c r) 0 ∅ 0)
def recvE (r : R) : sProp 𝕄 := iprop(atPos ER (sendCell c r) 1 ∅ 0 ∗ atPos ER (recvCell c r) 1 ∅ 0)
def arecvE (r : R) : sProp 𝕄 := iprop(atPos ER (asendCell c r) 1 ∅ 0 ∗ atPos ER (arecvCell c r) 1 ∅ 0)
/-- The places a neighbour lends. -/
def lentG (r : R) : sProp 𝕄 := iprop(∃ f, gPts (nb c r) c f)
def lentA (r : R) : sProp 𝕄 := iprop(∃ f, aPts (nb c r) (rowOf r) fullShare f)

omit [FloatOps F] in
theorem sep2 (Φ Ψ : R → sProp 𝕄) : iprop(bigSep Finset.univ Φ ∗ bigSep Finset.univ Ψ) = bigSep Finset.univ fun r => iprop(Φ r ∗ Ψ r) :=
  (bigSep_sep' Finset.univ Φ Ψ).symm

/-- The steps taken for every neighbour. -/
theorem all_steps (Q : PUnit → sProp 𝕄) (f : R → Body F → Body F) (A B : R → sProp 𝕄) (Lst : List R → sProp 𝕄)
    (h : ∀ r l k, iprop(A r ∗ Lst (r :: l)) ⊢ iprop(((B r ∗ Lst l) -∗ run c k Q) -∗ run c (f r k) Q)) (k : Body F) :
    iprop(bigSep Finset.univ A ∗ Lst offs) ⊢ iprop(((bigSep Finset.univ B ∗ Lst []) -∗ run c k Q) -∗ run c (offs.foldr f k) Q) := by
  rw [bigSep_offs, bigSep_offs]
  exact wp_steps c Q f A B Lst h offs k

/-! ## The last part -/

theorem run_E (Q : PUnit → sProp 𝕄) :
    iprop((aLoc c ↦{fullShare} aAt m c) ∗ ∃ f, oLoc c ↦{fullShare} f)
      ⊢ iprop((((aLoc c ↦{fullShare} aAt m c) ∗ (oLoc c ↦{fullShare} outAt m c)) -∗ Q ⟨⟩) -∗ run c (partE (yAt m c)) Q) := by
  unfold partE
  iintro ⟨Ha, ⟨%f, Ho⟩⟩ Hk
  iapply (wp_load 𝒱₀ (c : Thread nD τ) none Set.univ (m := aM) (Finset.subset_univ _)) $$ Ha; iintro Ha
  rw [read_a]
  iapply (wp_load 𝒱₀ (c : Thread nD τ) none Set.univ (m := oM) (Finset.subset_univ _)) $$ Ho; iintro Ho
  iapply (wp_store 𝒱₀ (c : Thread nD τ) none Set.univ (m := oM) (r := oRect) (Mk := Finset.univ) (Finset.subset_univ _)) $$ Ho; iintro Ho
  rw [write_o, wp_ret]; imodintro
  iapply Hk
  isplitl [Ha]; · iexact Ha
  iexact Ho

/-- The row of maxima stored. -/
theorem stored_a0 (f : Buf (Elt F) (aLoc c)) :
    ((aM.access a0Rect).loc (c : Thread nD τ) ↦[(aT 0).view.set]{fullShare} (aM.access a0Rect).write (Elt F) f (rowMax (yAt m c)) Finset.univ : sProp 𝕄)
      = aPts c 0 fullShare (aAt m c) :=
  pointsTo_congr fun i hi => land_a0 m c f i hi

theorem run_D (Q : PUnit → sProp 𝕄) :
    iprop(ctx m K ∗ ow c (Oa c offs) ∗ (∃ f, aPts c 0 fullShare f) ∗ bigSep Finset.univ (lentA c) ∗ bigSep Finset.univ (asendT c) ∗ bigSep Finset.univ (arecvP c)
        ∗ ∃ f, oLoc c ↦{fullShare} f)
      ⊢ iprop(((ow c 0 ∗ (aLoc c ↦{fullShare} aAt m c) ∗ bigSep Finset.univ (arecvE c) ∗ (oLoc c ↦{fullShare} outAt m c)) -∗ Q ⟨⟩)
          -∗ run c (partD c (yAt m c)) Q) := by
  unfold partD
  iintro ⟨#Hc, Ho, ⟨%f, Ha⟩, Hl, Ht, Hp, Hout⟩ Hk
  unfold aPts
  iapply (wp_load 𝒱₀ (c : Thread nD τ) none Set.univ (m := aM) sub_a0) $$ Ha; iintro Ha
  iapply (wp_store 𝒱₀ (c : Thread nD τ) none Set.univ (m := aM) (r := a0Rect) (Mk := Finset.univ) sub_a0') $$ Ha; iintro Ha
  ihave Ha := (Entails.of_eq (stored_a0 m c f)) $$ Ha
  ihave Ha := (Entails.of_eq (cut_a0 m c)) $$ Ha
  iapply (all_steps c Q (asendStep c) (fun r => iprop(aPts c 0 (piece r) (aAt m c) ∗ (∃ f, aPts (nb c r) (rowOf r) fullShare f) ∗ dutyTok ER (asendCell c r) 0 0 ∗ dutyTok ER (arecvCell (nb c r) r) 0 0))
    (fun r => cred (tallyAt (asendCell c r) () Na)) (fun l => iprop(ctx m K ∗ ow c (Oa c l))) (fun r l k => asend_step m K c Q r l k) _) $$ [Ha Hl Ht Ho]
  · isplitl [Ha Hl Ht]
    · rw [← sep2, ← sep2]
      isplitl [Ha]; · iexact Ha
      isplitl [Hl]; · iexact Hl
      iexact Ht
    isplitr; · iexact Hc
    iexact Ho
  iintro ⟨Hcr, -, Ho⟩
  iapply (all_steps c Q arecvStep (fun r => iprop(cred (tallyAt (asendCell c r) () Na) ∗ cred (tallyAt (arecvCell c r) () Na) ∗ atPos ER (asendCell c r) 0 ∅ 0 ∗ atPos ER (arecvCell c r) 0 ∅ 0))
    (fun r => iprop(aPts c 0 (piece r) (aAt m c) ∗ aPts c (rowOf r) fullShare (aAt m c) ∗ arecvE c r)) (fun l => iprop(ctx m K ∗ ow c 0)) (fun r l k => arecv_step m K c Q r l k) _)
    $$ [Hcr Hp Ho]
  · isplitl [Hcr Hp]
    · rw [← sep2]
      isplitl [Hcr]; · iexact Hcr
      iexact Hp
    isplitr; · iexact Hc
    iexact Ho
  rw [← sep2, ← sep2]
  iintro ⟨⟨Ha0, Har, He⟩, -, Ho⟩
  ihave Ha0 := (Entails.of_eq (cut_a0 m c).symm) $$ Ha0
  iapply (run_E m c Q) $$ [Ha0 Har Hout]
  · isplitl [Ha0 Har]
    · rw [cut_a c (aAt m c)]
      isplitl [Ha0]; · iexact Ha0
      iexact Har
    iexact Hout
  iintro ⟨Ha, Hout⟩
  iapply Hk
  isplitl [Ho]; · iexact Ho
  isplitl [Ha]; · iexact Ha
  isplitl [He]; · iexact He
  iexact Hout

/-! ## The contraction -/

/-- All blocks of `w`, one by one. -/
def wAll : sProp 𝕄 :=
  iprop(wPts m c 0 ∗ wPts m c 1 ∗ wPts m c 2 ∗ wPts m c 3 ∗ wPts m c 4 ∗ wPts m c 5 ∗ wPts m c 6 ∗ wPts m c 7)
omit [FloatOps F] in
theorem wAll_eq : (wLoc c ↦{fullShare} wAt m c : sProp 𝕄) = wAll m c := by
  rw [cut_w, bigSep_univ_eq_bigSepL [0, 1, 2, 3, 4, 5, 6, 7] (by decide) (by decide)]
  rfl

def tokW (s : Fin 2) (n : ℕ) : sProp 𝕄 := dutyTok ER (wCell c s) n 0

theorem yAt_eq : yAt m c = clip (accum (accum (accum (accum (accum (accum (accum (accum accZero (wBlk m c 0) (gBlk m c 0)) (wBlk m c 1) (gBlk m c 1))
    (wBlk m c 2) (gBlk m c 2)) (wBlk m c 3) (gBlk m c 3)) (wBlk m c 4) (gBlk m c 4)) (wBlk m c 5) (gBlk m c 5))
    (wBlk m c 6) (gBlk m c 6)) (wBlk m c 7) (gBlk m c 7)) := rfl

theorem run_C (Q : PUnit → sProp 𝕄) :
    iprop(ctx m K ∗ ow c (Oa c offs) ∗ fetching c 0 0 ∗ fetching c 1 0 ∗ gFull m c
        ∗ (wPts m c 2 ∗ wPts m c 3 ∗ wPts m c 4 ∗ wPts m c 5 ∗ wPts m c 6 ∗ wPts m c 7)
        ∗ (tokW c 0 1 ∗ tokW c 0 2 ∗ tokW c 0 3) ∗ (tokW c 1 1 ∗ tokW c 1 2 ∗ tokW c 1 3))
      ⊢ iprop(((ow c (Oa c offs) ∗ (atPos ER (wCell c 0) 4 ∅ 0 ∗ atPos ER (wCell c 1) 4 ∅ 0) ∗ ((∃ f, vPts c 0 f) ∗ (∃ f, vPts c 1 f)) ∗ gFull m c ∗ wAll m c)
            -∗ run c (partD c (yAt m c)) Q)
          -∗ run c (partC c) Q) := by
  unfold partC tokW
  iintro ⟨#Hc, Ho, F0, F1, Hg, ⟨W2, W3, W4, W5, W6, W7⟩, ⟨T01, T02, T03⟩, ⟨T11, T12, T13⟩⟩ Hk
  iapply (chunkF m K c Q 0 2 0 (by decide) rfl rfl rfl _) $$ [Ho F0 Hg W2 T01]
  · isplitr; · iexact Hc
    isplitl [Ho]; · iexact Ho
    isplitl [F0]; · iexact F0
    isplitl [Hg]; · iexact Hg
    isplitl [W2]; · iexact W2
    iexact T01
  iintro ⟨Ho, F0, Hg, W0⟩
  iapply (chunkF m K c Q 1 3 0 (by decide) rfl rfl rfl _) $$ [Ho F1 Hg W3 T11]
  · isplitr; · iexact Hc
    isplitl [Ho]; · iexact Ho
    isplitl [F1]; · iexact F1
    isplitl [Hg]; · iexact Hg
    isplitl [W3]; · iexact W3
    iexact T11
  iintro ⟨Ho, F1, Hg, W1⟩
  iapply (chunkF m K c Q 2 4 1 (by decide) rfl rfl rfl _) $$ [Ho F0 Hg W4 T02]
  · isplitr; · iexact Hc
    isplitl [Ho]; · iexact Ho
    isplitl [F0]; · iexact F0
    isplitl [Hg]; · iexact Hg
    isplitl [W4]; · iexact W4
    iexact T02
  iintro ⟨Ho, F0, Hg, W2⟩
  iapply (chunkF m K c Q 3 5 1 (by decide) rfl rfl rfl _) $$ [Ho F1 Hg W5 T12]
  · isplitr; · iexact Hc
    isplitl [Ho]; · iexact Ho
    isplitl [F1]; · iexact F1
    isplitl [Hg]; · iexact Hg
    isplitl [W5]; · iexact W5
    iexact T12
  iintro ⟨Ho, F1, Hg, W3⟩
  iapply (chunkF m K c Q 4 6 2 (by decide) rfl rfl rfl _) $$ [Ho F0 Hg W6 T03]
  · isplitr; · iexact Hc
    isplitl [Ho]; · iexact Ho
    isplitl [F0]; · iexact F0
    isplitl [Hg]; · iexact Hg
    isplitl [W6]; · iexact W6
    iexact T03
  iintro ⟨Ho, F0, Hg, W4⟩
  iapply (chunkF m K c Q 5 7 2 (by decide) rfl rfl rfl _) $$ [Ho F1 Hg W7 T13]
  · isplitr; · iexact Hc
    isplitl [Ho]; · iexact Ho
    isplitl [F1]; · iexact F1
    isplitl [Hg]; · iexact Hg
    isplitl [W7]; · iexact W7
    iexact T13
  iintro ⟨Ho, F1, Hg, W5⟩
  iapply (chunk m K c Q 6 3 (by decide) rfl _) $$ [Ho F0 Hg]
  · isplitr; · iexact Hc
    isplitl [Ho]; · iexact Ho
    isplitl [F0]; · iexact F0
    iexact Hg
  iintro ⟨Ho, P0, V0, Hg, W6⟩
  iapply (chunk m K c Q 7 3 (by decide) rfl _) $$ [Ho F1 Hg]
  · isplitr; · iexact Hc
    isplitl [Ho]; · iexact Ho
    isplitl [F1]; · iexact F1
    iexact Hg
  iintro ⟨Ho, P1, V1, Hg, W7⟩
  rw [← yAt_eq]
  iapply Hk
  isplitl [Ho]; · iexact Ho
  isplitl [P0 P1]
  · isplitl [P0]; · iexact P0
    iexact P1
  isplitl [V0 V1]
  · isplitl [V0]; · iexact V0
    iexact V1
  isplitl [Hg]; · iexact Hg
  unfold wAll
  isplitl [W0]; · iexact W0
  isplitl [W1]; · iexact W1
  isplitl [W2]; · iexact W2
  isplitl [W3]; · iexact W3
  isplitl [W4]; · iexact W4
  isplitl [W5]; · iexact W5
  isplitl [W6]; · iexact W6
  iexact W7

/-! ## The exchange of tiles -/

/-- The own tile stored in its place. -/
theorem stored_g (f : Buf (Elt F) (gLoc c)) :
    ((gM.access (ownG c)).loc (c : Thread nD τ) ↦[(gM.access (ownG c)).set]{fullShare}
        (gM.access (ownG c)).write (Elt F) f (k0_pay3 (bM.view.readAt (Elt F) (ownB c).toLoadRect (bAt m c))) Finset.univ : sProp 𝕄)
      = gOwn c (gAt m c) :=
  pointsTo_congr fun i hi => land_own m c f i hi

theorem ow_or : (ow c (Or c []) : sProp 𝕄) ⊢ ow c (Oa c offs) := by
  rw [show Or c [] = Oa c offs from add_zero _]
theorem ow_ob : (ow c (Ob c []) : sProp 𝕄) ⊢ ow c (Or c offs) := by
  rw [show Ob c [] = Or c offs from add_zero _]

theorem sub_ownG' : (gM.access (ownG c)).setOn Finset.univ ⊆ (gM.access (ownG c)).set := subset_of_eq rfl

theorem run_B (Q : PUnit → sProp 𝕄) :
    iprop(ctx m K ∗ ow c (Or c offs) ∗ (bLoc c ↦{fullShare} bAt m c) ∗ (∃ f, gOwn c f) ∗ bigSep Finset.univ (lentG c) ∗ bigSep Finset.univ (sendT c) ∗ bigSep Finset.univ (recvP c)
        ∗ wPts m c 1 ∗ (∃ f, vPts c 1 f) ∗ tokW c 1 0)
      ⊢ iprop(((ow c (Oa c offs) ∗ (bLoc c ↦{fullShare} bAt m c) ∗ gFull m c ∗ bigSep Finset.univ (recvE c) ∗ cred (tallyAt (wCell c 1) () Nw)) -∗ run c (partC c) Q)
          -∗ run c (partB c) Q) := by
  unfold partB tokW
  rw [cut_b m c]
  iintro ⟨#Hc, Ho, ⟨Hb, Hbs⟩, ⟨%f, Hg⟩, Hl, Ht, Hp, Hw, Hv, Htw⟩ Hk
  iapply (all_steps c Q (sendStep c) (fun r => iprop(bPts m c r ∗ (∃ f, gPts (nb c r) c f) ∗ dutyTok ER (sendCell c r) 0 0 ∗ dutyTok ER (recvCell (nb c r) r) 0 0))
    (fun r => cred (tallyAt (sendCell c r) () Nx)) (fun l => iprop(ctx m K ∗ ow c (Or c l))) (fun r l k => send_step m K c Q r l k) _) $$ [Hbs Hl Ht Ho]
  · isplitl [Hbs Hl Ht]
    · rw [← sep2, ← sep2]
      isplitl [Hbs]; · iexact Hbs
      isplitl [Hl]; · iexact Hl
      iexact Ht
    isplitr; · iexact Hc
    iexact Ho
  iintro ⟨Hcr, -, Ho⟩
  unfold bOwn gOwn
  iapply (wp_load 𝒱₀ (c : Thread nD τ) none Set.univ (m := bM) (sub_ownB c)) $$ Hb; iintro Hb
  iapply (wp_load 𝒱₀ (c : Thread nD τ) none Set.univ (m := gM) (sub_ownG c)) $$ Hg; iintro Hg
  iapply (wp_store 𝒱₀ (c : Thread nD τ) none Set.univ (m := gM) (r := ownG c) (Mk := Finset.univ) (sub_ownG' c)) $$ Hg; iintro Hg
  ihave Hg := (Entails.of_eq (stored_g m c f)) $$ Hg
  iapply (fetch_step m K c Q 1 0 (by decide) rfl _) $$ [Hw Hv Htw]
  · isplitr; · iexact Hc
    isplitl [Hw]; · iexact Hw
    isplitl [Hv]; · iexact Hv
    isplitl [Htw]; · iexact Htw
    iapply (ctx_reached m K c _ (csem_ix_w 1)); iexact Hc
  iintro Hcw
  iapply (all_steps c Q (recvStep c) (fun r => iprop(cred (tallyAt (sendCell c r) () Nx) ∗ cred (tallyAt (recvCell c r) () Nx) ∗ atPos ER (sendCell c r) 0 ∅ 0 ∗ atPos ER (recvCell c r) 0 ∅ 0))
    (fun r => iprop(bPts m c r ∗ gPts c (pv c r) (gAt m c) ∗ recvE c r)) (fun l => iprop(ctx m K ∗ ow c (Oa c offs))) (fun r l k => recv_step m K c Q r l k) _)
    $$ [Hcr Hp Ho]
  · isplitl [Hcr Hp]
    · rw [← sep2]
      isplitl [Hcr]; · iexact Hcr
      iexact Hp
    isplitr; · iexact Hc
    iapply (ow_or c); iexact Ho
  rw [← sep2, ← sep2]
  iintro ⟨⟨Hbs, Hgs, He⟩, -, Ho⟩
  iapply Hk
  isplitl [Ho]; · iexact Ho
  isplitl [Hb Hbs]
  · isplitl [Hb]; · iexact Hb
    iexact Hbs
  isplitl [Hg Hgs]
  · unfold gFull
    iapply (Entails.of_eq (cut_g_pv c (gAt m c)).symm)
    isplitl [Hg]; · iexact Hg
    iexact Hgs
  isplitl [He]; · iexact He
  iexact Hcw

/-! ## The handshake -/

theorem ex_g (r : R) (f : Buf (Elt F) (gLoc c)) : gPts c (nb c r) f ⊢ (iprop(∃ f, gPts c (nb c r) f) : sProp 𝕄) := by
  iintro H; iexists f; iexact H

theorem ex_a (r : R) (g : Buf (Elt F) (aLoc c)) : aPts c (rowOf r) fullShare g ⊢ (iprop(∃ g, aPts c (rowOf r) fullShare g) : sProp 𝕄) := by
  iintro H; iexists g; iexact H

theorem lend_intro (f : Buf (Elt F) (gLoc c)) (g : Buf (Elt F) (aLoc c)) :
    iprop((gLoc c ↦{fullShare} f) ∗ (aLoc c ↦{fullShare} g)) ⊢ (iprop(gOwn c f ∗ aPts c 0 fullShare g ∗ bigSep Finset.univ (lend c)) : sProp 𝕄) := by
  have h1 : (bigSep Finset.univ fun r : R => gPts c (nb c r) f) ⊢ (bigSep Finset.univ fun r : R => iprop(∃ f, gPts c (nb c r) f) : sProp 𝕄) :=
    BI.bigSep_mono fun r _ => ex_g c r f
  have h2 : (bigSep Finset.univ fun r : R => aPts c (rowOf r) fullShare g) ⊢ (bigSep Finset.univ fun r : R => iprop(∃ g, aPts c (rowOf r.rev) fullShare g) : sProp 𝕄) := by
    rw [BI.bigSep_univ_equiv (Fin.revPerm (n := 31)) (fun r : R => aPts c (rowOf r) fullShare g)]
    exact BI.bigSep_mono fun r _ => ex_a c r.rev g
  rw [cut_g_nb c f, cut_a c g]
  iintro ⟨⟨Hg, Hgs⟩, ⟨Ha, Has⟩⟩
  ihave Hgs := h1 $$ Hgs
  ihave Has := h2 $$ Has
  isplitl [Hg]; · iexact Hg
  isplitl [Ha]; · iexact Ha
  unfold lend
  rw [← sep2]
  isplitl [Hgs]; · iexact Hgs
  iexact Has

theorem lent_split : (bigSep Finset.univ fun d : R => payK m c 0 d .bar) ⊢ (iprop(bigSep Finset.univ (lentG c) ∗ bigSep Finset.univ (lentA c)) : sProp 𝕄) :=
  Entails.of_eq (sep2 (lentG c) (lentA c)).symm

theorem cut_v2 (f : Buf (Elt F) (vLoc c)) : (vLoc c ↦{fullShare} f) ⊢ (iprop(vPts c 0 f ∗ vPts c 1 f) : sProp 𝕄) :=
  Entails.of_eq ((cut_v c f).trans (bigSep_fin_two _))

theorem glue_v2 (f₀ : Buf (Elt F) (vLoc c)) : iprop((∃ f, vPts c 0 f) ∗ (∃ f, vPts c 1 f)) ⊢ (iprop(∃ f, vLoc c ↦{fullShare} f) : sProp 𝕄) :=
  (Entails.of_eq (bigSep_fin_two (fun s => iprop(∃ f, vPts c s f))).symm).trans (glue_v c f₀)

theorem run_A (Q : PUnit → sProp 𝕄) :
    iprop(ctx m K ∗ ow c (O₀ c) ∗ cred (tallyAt (barCell c) () 31) ∗ atPos ER (barCell c) 0 ∅ 0 ∗ bigSep Finset.univ (sigT c)
        ∗ (∃ f, bLoc c ↦{fullShare} f) ∗ (∃ f, gLoc c ↦{fullShare} f) ∗ (∃ f, aLoc c ↦{fullShare} f) ∗ (xLoc c ↦{fullShare} xstg m c)
        ∗ wPts m c 0 ∗ (∃ f, vPts c 0 f) ∗ tokW c 0 0)
      ⊢ iprop(((ow c (Or c offs) ∗ atPos ER (barCell c) 1 ∅ 0 ∗ (bLoc c ↦{fullShare} bAt m c) ∗ (∃ f, gOwn c f) ∗ (∃ f, aPts c 0 fullShare f)
              ∗ bigSep Finset.univ (lentG c) ∗ bigSep Finset.univ (lentA c) ∗ (xLoc c ↦{fullShare} xstg m c) ∗ cred (tallyAt (wCell c 0) () Nw)) -∗ run c (partB c) Q)
          -∗ run c (partA c) Q) := by
  unfold partA tokW
  iintro ⟨#Hc, Ho, Hcb, Hat, Ht, ⟨%fb, Hb⟩, ⟨%fg, Hg⟩, ⟨%fa, Ha⟩, Hx, Hw, Hv, Htw⟩ Hk
  ihave Hl := (lend_intro c fg fa) $$ [Hg Ha]
  · isplitl [Hg]; · iexact Hg
    iexact Ha
  icases Hl with ⟨Hg, Ha, Hl⟩
  iapply (all_steps c Q (sigStep c) (fun r => iprop(dutyTok ER (barCell (nb c r)) 0 r.rev ∗ lend c r)) (fun _ => iprop(emp))
    (fun l => iprop(ctx m K ∗ ow c (Ob c l))) (fun r l k => sig_step m K c Q r l k) _) $$ [Ht Hl Ho]
  · isplitl [Ht Hl]
    · rw [← sep2]
      isplitl [Ht]; · iexact Ht
      iexact Hl
    isplitr; · iexact Hc
    iexact Ho
  iintro ⟨-, -, Ho⟩
  ihave Ho := (ow_ob c) $$ Ho
  unfold ow
  icases Ho with ⟨%W, Ho⟩
  iapply (Rounds.wp_wait_rest_token 𝒱₀ ER (rd m) (c : Thread nD τ) none (κ := K (c, semIx (.reg barS)))
      (wpE_semWait_eq 𝒱₀ (c : Thread nD τ) none Set.univ) (Set.mem_univ _) () (O := Or c offs) (W := W) (R := 0) (m := 0) (T := ∅)
      (by rw [rd_expect_bar]; decide)) $$ [Hcb Ho Hat]
  · isplitr; · iapply (ctx_inv m K c (.reg barS) csem_ix_bar); iexact Hc
    isplitl [Hcb]; · iexact Hcb
    isplitl [Ho]; · iexact Ho
    isplitr; · iapply (ctx_wait m K c (.reg barS) 1 (Or c offs) (above_Or c offs) (by rw [kind_bar]; show 1 ≤ 1; decide)); iexact Hc
    iexact Hat
  iintro ⟨Ho, Hat, -, Hpay⟩
  ihave Hp := (Entails.of_eq (rd_rest_bar m)) $$ Hpay
  ihave Hp := (lent_split m c) $$ Hp
  icases Hp with ⟨HlG, HlA⟩
  iapply (wp_load 𝒱₀ (c : Thread nD τ) none Set.univ (m := xM) (Finset.subset_univ _)) $$ Hx; iintro Hx
  rw [read_x]
  iapply (wp_load 𝒱₀ (c : Thread nD τ) none Set.univ (m := bM) (Finset.subset_univ _)) $$ Hb; iintro Hb
  iapply (wp_store 𝒱₀ (c : Thread nD τ) none Set.univ (m := bM) (r := xRect) (Mk := Finset.univ) (Finset.subset_univ _)) $$ Hb; iintro Hb
  rw [write_b]
  iapply (fetch_step m K c Q 0 0 (by decide) rfl _) $$ [Hw Hv Htw]
  · isplitr; · iexact Hc
    isplitl [Hw]; · iexact Hw
    isplitl [Hv]; · iexact Hv
    isplitl [Htw]; · iexact Htw
    iapply (ctx_reached m K c _ (csem_ix_w 0)); iexact Hc
  iintro Hcw
  iapply Hk
  isplitl [Ho]; · iexists _; iexact Ho
  isplitl [Hat]; · iexact Hat
  isplitl [Hb]; · iexact Hb
  isplitl [Hg]; · iexists fg; iexact Hg
  isplitl [Ha]; · iexists fa; iexact Ha
  isplitl [HlG]; · iexact HlG
  isplitl [HlA]; · iexact HlA
  isplitl [Hx]; · iexact Hx
  iexact Hcw

/-! ## The whole body -/

/-- What the protocol gives device `c` to start with, the records aside. -/
def protoPre : sProp 𝕄 :=
  iprop((cred (tallyAt (barCell c) () 31) ∗ atPos ER (barCell c) 0 ∅ 0) ∗ bigSep Finset.univ (sigT c)
    ∗ (bigSep Finset.univ (sendT c) ∗ bigSep Finset.univ (recvP c)) ∗ (bigSep Finset.univ (asendT c) ∗ bigSep Finset.univ (arecvP c))
    ∗ (tokW c 0 0 ∗ tokW c 0 1 ∗ tokW c 0 2 ∗ tokW c 0 3) ∗ (tokW c 1 0 ∗ tokW c 1 1 ∗ tokW c 1 2 ∗ tokW c 1 3)
    ∗ (atPos ER (wCell c 0) 0 ∅ 0 ∗ atPos ER (wCell c 1) 0 ∅ 0))

/-- The positions of its cells at the end. -/
def protoPost : sProp 𝕄 :=
  iprop(atPos ER (barCell c) 1 ∅ 0 ∗ bigSep Finset.univ (recvE c) ∗ bigSep Finset.univ (arecvE c) ∗ atPos ER (wCell c 0) 4 ∅ 0 ∗ atPos ER (wCell c 1) 4 ∅ 0)

/-- The scratch buffers, holding anything. -/
def scratch : sProp 𝕄 :=
  iprop((∃ f, bLoc c ↦{fullShare} f) ∗ (∃ f, gLoc c ↦{fullShare} f) ∗ (∃ f, vLoc c ↦{fullShare} f) ∗ (∃ f, aLoc c ↦{fullShare} f))

theorem run_body (Q : PUnit → sProp 𝕄) :
    iprop(ctx m K ∗ ow c (O₀ c) ∗ protoPre c ∗ scratch c ∗ (wLoc c ↦{fullShare} wAt m c) ∗ (xLoc c ↦{fullShare} xstg m c) ∗ ∃ f, oLoc c ↦{fullShare} f)
      ⊢ iprop(((ow c 0 ∗ protoPost c ∗ scratch c ∗ (wLoc c ↦{fullShare} wAt m c) ∗ (xLoc c ↦{fullShare} xstg m c) ∗ (oLoc c ↦{fullShare} outAt m c)) -∗ Q ⟨⟩)
          -∗ run c (partA c) Q) := by
  unfold protoPre scratch
  rw [wAll_eq]
  unfold wAll
  iintro ⟨#Hc, Ho, ⟨⟨Hcb, Hab⟩, Hsig, ⟨Hst, Hrp⟩, ⟨Hat, Harp⟩, ⟨T00, T01, T02, T03⟩, ⟨T10, T11, T12, T13⟩, ⟨Hw0, Hw1⟩⟩, ⟨Hb, Hg, ⟨%fv, Hv⟩, Ha⟩,
    ⟨W0, W1, W2, W3, W4, W5, W6, W7⟩, Hx, Hout⟩ Hk
  ihave Hv := (cut_v2 c fv) $$ Hv
  icases Hv with ⟨V0, V1⟩
  iapply (run_A m K c Q) $$ [Ho Hcb Hab Hsig Hb Hg Ha Hx W0 V0 T00]
  · isplitr; · iexact Hc
    isplitl [Ho]; · iexact Ho
    isplitl [Hcb]; · iexact Hcb
    isplitl [Hab]; · iexact Hab
    isplitl [Hsig]; · iexact Hsig
    isplitl [Hb]; · iexact Hb
    isplitl [Hg]; · iexact Hg
    isplitl [Ha]; · iexact Ha
    isplitl [Hx]; · iexact Hx
    isplitl [W0]; · iexact W0
    isplitl [V0]; · iexists fv; iexact V0
    iexact T00
  iintro ⟨Ho, Hab, Hb, Hg, Ha, HlG, HlA, Hx, Hc0⟩
  iapply (run_B m K c Q) $$ [Ho Hb Hg HlG Hst Hrp W1 V1 T10]
  · isplitr; · iexact Hc
    isplitl [Ho]; · iexact Ho
    isplitl [Hb]; · iexact Hb
    isplitl [Hg]; · iexact Hg
    isplitl [HlG]; · iexact HlG
    isplitl [Hst]; · iexact Hst
    isplitl [Hrp]; · iexact Hrp
    isplitl [W1]; · iexact W1
    isplitl [V1]; · iexists fv; iexact V1
    iexact T10
  iintro ⟨Ho, Hb, Hg, HeG, Hc1⟩
  iapply (run_C m K c Q) $$ [Ho Hc0 Hc1 Hw0 Hw1 Hg W2 W3 W4 W5 W6 W7 T01 T02 T03 T11 T12 T13]
  · isplitr; · iexact Hc
    isplitl [Ho]; · iexact Ho
    unfold fetching
    isplitl [Hc0 Hw0]
    · isplitl [Hc0]; · iexact Hc0
      iexact Hw0
    isplitl [Hc1 Hw1]
    · isplitl [Hc1]; · iexact Hc1
      iexact Hw1
    isplitl [Hg]; · iexact Hg
    isplitl [W2 W3 W4 W5 W6 W7]
    · isplitl [W2]; · iexact W2
      isplitl [W3]; · iexact W3
      isplitl [W4]; · iexact W4
      isplitl [W5]; · iexact W5
      isplitl [W6]; · iexact W6
      iexact W7
    isplitl [T01 T02 T03]
    · isplitl [T01]; · iexact T01
      isplitl [T02]; · iexact T02
      iexact T03
    isplitl [T11]; · iexact T11
    isplitl [T12]; · iexact T12
    iexact T13
  iintro ⟨Ho, ⟨Hw0, Hw1⟩, ⟨V0, V1⟩, Hg, Hw⟩
  iapply (run_D m K c Q) $$ [Ho Ha HlA Hat Harp Hout]
  · isplitr; · iexact Hc
    isplitl [Ho]; · iexact Ho
    isplitl [Ha]; · iexact Ha
    isplitl [HlA]; · iexact HlA
    isplitl [Hat]; · iexact Hat
    isplitl [Harp]; · iexact Harp
    iexact Hout
  iintro ⟨Ho, Ha, HeA, Hout⟩
  iapply Hk
  isplitl [Ho]; · iexact Ho
  isplitl [Hab HeG HeA Hw0 Hw1]
  · unfold protoPost
    isplitl [Hab]; · iexact Hab
    isplitl [HeG]; · iexact HeG
    isplitl [HeA]; · iexact HeA
    isplitl [Hw0]; · iexact Hw0
    iexact Hw1
  isplitl [Hb Hg V0 V1 Ha]
  · isplitl [Hb]; · iexists _; iexact Hb
    isplitl [Hg]; · unfold gFull; iexists _; iexact Hg
    isplitl [V0 V1]
    · iapply (glue_v2 c fv)
      isplitl [V0]; · iexact V0
      iexact V1
    iexists _; iexact Ha
  isplitl [Hw]; · unfold wAll; iexact Hw
  isplitl [Hx]; · iexact Hx
  iexact Hout

end Cert.Gather
-- ==== Proof.Cells.lean ====
/-
  The ghost state at the start: every semaphore's cell of every device, the tokens of all the signals, dealt to the devices
  that will signal, and the credits of what each device is owed.
-/
module

public import proofs.«01_k».proof.Proof.Run

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells of a device, group by group -/

/-- Where a group's semaphore lies in the row of cells: the four arrays' entries 1 to 31; then the barrier, the two cells for
    `w`, and the four entries 0, which nothing uses. -/
def cellIx : (Fin 4 × R) ⊕ Fin 7 → Fin 131
  | .inl (a, r) => ⟨(32 * a.val + 1 + r.val) % 131, Nat.mod_lt _ (by decide)⟩
  | .inr i => ![130, 128, 129, 0, 32, 64, 96] i
def cellIx' (k : Fin 131) : (Fin 4 × R) ⊕ Fin 7 :=
  if k.val = 130 then .inr 0 else if k.val = 128 then .inr 1 else if k.val = 129 then .inr 2
  else if k.val % 32 = 0 then .inr ⟨(3 + k.val / 32) % 7, Nat.mod_lt _ (by decide)⟩
  else .inl (⟨k.val / 32 % 4, Nat.mod_lt _ (by decide)⟩, ⟨(k.val - 1) % 32 % 31, Nat.mod_lt _ (by decide)⟩)
def cellEquiv : ((Fin 4 × R) ⊕ Fin 7) ≃ Fin 131 where
  toFun := cellIx
  invFun := cellIx'
  left_inv := by
    have h : ∀ x, cellIx' (cellIx x) = x := by decide +kernel
    exact h
  right_inv := by
    have h : ∀ k, cellIx (cellIx' k) = k := by decide +kernel
    exact h

theorem csem_0 : ∀ r : R, csem (cellIx (.inl (0, r))) = .dma (sendS r) := by decide +kernel
theorem csem_1 : ∀ r : R, csem (cellIx (.inl (1, r))) = .dma (recvS r) := by decide +kernel
theorem csem_2 : ∀ r : R, csem (cellIx (.inl (2, r))) = .dma (asendS r) := by decide +kernel
theorem csem_3 : ∀ r : R, csem (cellIx (.inl (3, r))) = .dma (arecvS r) := by decide +kernel

/-- The four semaphores nothing uses. -/
def idleS (a : Fin 4) : SemLoc sig := csem (![0, 32, 64, 96] a)
theorem kind_idle : ∀ a, kind (idleS a) = .none := by decide +kernel

theorem cells_split {M : Type} [URA M] (Φ : SemLoc sig → sProp M) :
    (bigSep Finset.univ fun k : Fin 131 => Φ (csem k))
      = iprop(((bigSep Finset.univ fun r : R => Φ (.dma (sendS r))) ∗ (bigSep Finset.univ fun r : R => Φ (.dma (recvS r)))
          ∗ (bigSep Finset.univ fun r : R => Φ (.dma (asendS r))) ∗ (bigSep Finset.univ fun r : R => Φ (.dma (arecvS r))))
        ∗ (Φ (.reg barS) ∗ Φ (.dma (wS 0)) ∗ Φ (.dma (wS 1)) ∗ Φ (idleS 0) ∗ Φ (idleS 1) ∗ Φ (idleS 2) ∗ Φ (idleS 3))) := by
  rw [BI.bigSep_univ_equiv cellEquiv (fun k : Fin 131 => Φ (csem k)), BI.bigSep_univ_sum, BI.bigSep_univ_prod,
    bigSep_univ_eq_bigSepL [0, 1, 2, 3] (by decide) (by decide), bigSep_univ_eq_bigSepL [0, 1, 2, 3, 4, 5, 6] (by decide) (by decide)]
  rw [← (funext fun r => congrArg Φ (csem_0 r) : (fun r => Φ (csem (cellIx (.inl (0, r))))) = fun r => Φ (.dma (sendS r))),
    ← (funext fun r => congrArg Φ (csem_1 r) : (fun r => Φ (csem (cellIx (.inl (1, r))))) = fun r => Φ (.dma (recvS r))),
    ← (funext fun r => congrArg Φ (csem_2 r) : (fun r => Φ (csem (cellIx (.inl (2, r))))) = fun r => Φ (.dma (asendS r))),
    ← (funext fun r => congrArg Φ (csem_3 r) : (fun r => Φ (csem (cellIx (.inl (3, r))))) = fun r => Φ (.dma (arecvS r)))]
  rfl

theorem csem_inj : Function.Injective csem := by
  intro k k' h
  have e : ∀ k, semIx (csem k) = k := by decide +kernel
  rw [← e k, ← e k', h]
theorem kcell_inj : Function.Injective (kcell : Dev nD × Fin 131 → GSem nD τ sig) := by
  rintro ⟨c, k⟩ ⟨c', k'⟩ h
  have h1 : c = c' := congrArg (fun g : GSem nD τ sig => g.1.1) h
  subst h1
  exact congrArg (Prod.mk c) (csem_inj (congrArg Prod.snd h))

/-! ## The tokens -/

/-- A token of one of device `c`'s own cells: of its barrier, of its four arrays, of its cells for `w`. -/
abbrev TokIx : Type := (Fin 5 × R) ⊕ (Fin 2 × Fin 4)
def tokOf : Dev nD × TokIx → GSem nD τ sig × ℕ × R
  | (c, .inl (0, r)) => (barCell c, 0, r)
  | (c, .inl (1, r)) => (sendCell c r, 0, 0)
  | (c, .inl (2, r)) => (recvCell c r, 0, 0)
  | (c, .inl (3, r)) => (asendCell c r, 0, 0)
  | (c, .inl (4, r)) => (arecvCell c r, 0, 0)
  | (c, .inr (s, n)) => (wCell c s, n.val, 0)
/-- The token read back. -/
def tokTo (x : GSem nD τ sig × ℕ × R) : Dev nD × TokIx := (x.1.1.1, match kind x.1.2 with
  | .bar => .inl (0, x.2.2)
  | .send r => .inl (1, r)
  | .recv r => .inl (2, r)
  | .asend r => .inl (3, r)
  | .arecv r => .inl (4, r)
  | .w s => .inr (s, ⟨x.2.1 % 4, Nat.mod_lt _ (by decide)⟩)
  | .none => .inl (0, 0))
theorem tok_back : ∀ i, tokTo (tokOf i) = i
  | (c, .inl (0, r)) => rfl
  | (c, .inl (1, r)) => by unfold tokTo tokOf; dsimp only; rw [kind_send]
  | (c, .inl (2, r)) => by unfold tokTo tokOf; dsimp only; rw [kind_recv]
  | (c, .inl (3, r)) => by unfold tokTo tokOf; dsimp only; rw [kind_asend]
  | (c, .inl (4, r)) => by unfold tokTo tokOf; dsimp only; rw [kind_arecv]
  | (c, .inr (s, n)) => by
    unfold tokTo tokOf; dsimp only; rw [kind_w]
    dsimp only
    rw [show (⟨n.val % 4, Nat.mod_lt _ (by decide)⟩ : Fin 4) = n from Fin.ext (Nat.mod_eq_of_lt n.isLt)]
theorem tokOf_inj : Function.Injective tokOf := Function.LeftInverse.injective tok_back

def cellSet : Finset (GSem nD τ sig) := Finset.univ.map ⟨kcell, kcell_inj⟩
def tokSet : Finset (GSem nD τ sig × ℕ × R) := Finset.univ.map ⟨tokOf, tokOf_inj⟩

/-- What the whole run starts from. -/
def u₀ : UU := (Rounds.initOf (Pipeline.cells cfgs cellOf_inj) (Pipeline.launchToks cfgs cellOf_inj), Rounds.initOf cellSet tokSet)

/-- The tokens of the cells for `w`. -/
def tokWs (c : Dev nD) : sProp 𝕄 :=
  iprop((tokW c 0 0 ∗ tokW c 0 1 ∗ tokW c 0 2 ∗ tokW c 0 3) ∗ (tokW c 1 0 ∗ tokW c 1 1 ∗ tokW c 1 2 ∗ tokW c 1 3))
/-- The tokens of device `c`'s own cells. -/
def toks (c : Dev nD) : sProp 𝕄 :=
  iprop(((bigSep Finset.univ fun r : R => dutyTok ER (barCell c) 0 r) ∗ (bigSep Finset.univ fun r : R => dutyTok ER (sendCell c r) 0 0)
      ∗ (bigSep Finset.univ fun r : R => dutyTok ER (recvCell c r) 0 0) ∗ (bigSep Finset.univ fun r : R => dutyTok ER (asendCell c r) 0 0)
      ∗ (bigSep Finset.univ fun r : R => dutyTok ER (arecvCell c r) 0 0)) ∗ tokWs c)
/-- The tokens of the signals device `c` gives. -/
def payToks (c : Dev nD) : sProp 𝕄 :=
  iprop((bigSep Finset.univ (sigT c)) ∗ (bigSep Finset.univ (sendT c)) ∗ (bigSep Finset.univ (asendT c)) ∗ tokWs c)

omit [FloatOps F] in
theorem toks_eq : (bigSep tokSet fun x => (dutyTok ER x.1 x.2.1 x.2.2 : sProp 𝕄)) = bigSep Finset.univ fun c : Dev nD => toks c := by
  unfold tokSet; rw [BI.bigSep_map, BI.bigSep_univ_prod]
  refine BI.bigSep_congr fun c _ => ?_
  rw [BI.bigSep_univ_sum, BI.bigSep_univ_prod, BI.bigSep_univ_prod, bigSep_univ_eq_bigSepL [0, 1, 2, 3, 4] (by decide) (by decide),
    bigSep_univ_eq_bigSepL [0, 1] (by decide) (by decide)]
  unfold toks tokWs tokW
  simp only [bigSep_univ_eq_bigSepL ([0, 1, 2, 3] : List (Fin 4)) (by decide) (by decide)]
  rfl

def nbEquiv (r : R) : Dev nD ≃ Dev nD := ⟨fun c => nb c r, fun c => pv c r, fun c => pv_nb c r, fun c => nb_pv c r⟩

omit [FloatOps F] in
/-- What every device has for its neighbour `r`, all neighbours, handed over. -/
theorem around (f : Dev nD → R → sProp 𝕄) :
    (bigSep Finset.univ fun c : Dev nD => bigSep Finset.univ fun r : R => f c r)
      = bigSep Finset.univ fun c : Dev nD => bigSep Finset.univ fun r : R => f (nb c r) r := by
  rw [BI.bigSep_univ_comm f, BI.bigSep_univ_comm (fun c r => f (nb c r) r)]
  exact BI.bigSep_congr fun r _ => BI.bigSep_univ_equiv (nbEquiv r) (fun c => f c r)

omit [FloatOps F] in
theorem toks_around : (bigSep Finset.univ fun c : Dev nD => (toks c : sProp 𝕄)) ⊢ bigSep Finset.univ fun c : Dev nD => payToks c := by
  unfold toks payToks sendT asendT
  simp only [bigSep_sep']
  rw [(BI.bigSep_congr fun c _ => BI.bigSep_univ_equiv (Fin.revPerm (n := 31)) (fun r : R => (dutyTok ER (barCell c) 0 r : sProp 𝕄)) :
      (bigSep Finset.univ fun c : Dev nD => bigSep Finset.univ fun r : R => (dutyTok ER (barCell c) 0 r : sProp 𝕄))
        = bigSep Finset.univ fun c : Dev nD => bigSep Finset.univ fun r : R => dutyTok ER (barCell c) 0 (Fin.revPerm r)),
    around (fun c r => (dutyTok ER (barCell c) 0 (Fin.revPerm r) : sProp 𝕄)), around (fun c r => (dutyTok ER (recvCell c r) 0 0 : sProp 𝕄)),
    around (fun c r => (dutyTok ER (arecvCell c r) 0 0 : sProp 𝕄))]
  iintro ⟨⟨H1, H2, H3, H4, H5⟩, H6⟩
  isplitl [H1]; · iexact H1
  isplitl [H2 H3]
  · isplitl [H2]; · iexact H2
    iexact H3
  isplitl [H4 H5]
  · isplitl [H4]; · iexact H4
    iexact H5
  iexact H6

/-! ## From the counters to the cells -/

def G (c : Dev nD) : sProp 𝕄 :=
  iprop((bigSep Finset.univ fun k : Fin 131 => roundState ER (rd m) (kcell (c, k)) 0)
    ∗ (bigSep Finset.univ fun k : Fin 131 => iprop(atPos ER (kcell (c, k)) 0 ∅ 0 ∗ reached ER (kcell (c, k)) 0)) ∗ toks c)

/-- The positions of device `c`'s cells, round 0. -/
def pos0 (c : Dev nD) : sProp 𝕄 := bigSep Finset.univ fun k : Fin 131 => atPos ER (kcell (c, k)) 0 ∅ 0
def G' (c : Dev nD) : sProp 𝕄 := iprop(∃ K, records m K ∗ pos0 c ∗ payToks c)

theorem fund_cells : BI.own (ER (Rounds.initOf cellSet tokSet)) ⊢ (|==> bigSep Finset.univ (G m) : sProp 𝕄) := by
  have hX (Φ : GSem nD τ sig → sProp 𝕄) : bigSep cellSet Φ = bigSep Finset.univ fun c : Dev nD => bigSep Finset.univ fun k : Fin 131 => Φ (kcell (c, k)) := by
    unfold cellSet; rw [BI.bigSep_map, BI.bigSep_univ_prod]; rfl
  iintro HX
  imod (Rounds.fund ER (rd m) cellSet tokSet) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq toks_eq) $$ Htok
  unfold G; simp only [bigSep_sep']
  isplitl [Hst']; · iexact Hst'
  isplitl [Hat' Hr']
  · isplitl [Hat'] <;> iassumption
  iexact Htok'

/-- The kernel's own semaphores. -/
def osem (k : Fin 130) : SemLoc sig := csem k.castSucc

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      = (bigSep Finset.univ fun k : Fin 131 => semVal (kcell (c, k)) 0 : sProp 𝕄) := by
  rw [unscopedSems0_eq, BI.bigSep_univ_equiv (finSumFinEquiv (m := 130) (n := 1)), BI.bigSep_univ_sum, BI.bigSep_univ_of_subsingleton (0 : Fin 1)]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun k : Fin 131 => semVal (kcell (c, k)) 0) ∗ bigSep Finset.univ fun k : Fin 131 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (BI.bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem with_records {I : Type} [DecidableEq I] {S : Finset I} {P : sProp 𝕄} [BI.Persistent P] {Φ Ψ : I → sProp 𝕄}
    (h : ∀ i ∈ S, iprop(P ∗ Φ i) ⊢ Ψ i) : iprop(P ∗ bigSep S Φ) ⊢ bigSep S Ψ :=
  (sep_mono_left (BI.bigSep_of_persistent S P)).trans (by rw [← bigSep_sep']; exact BI.bigSep_mono h)

theorem G'_intro (K : Dev nD × Fin 131 → ℕ) (c : Dev nD) : iprop(records m K ∗ (pos0 c ∗ payToks c)) ⊢ G' m c := by
  unfold G'
  iintro ⟨#HR, Hp, Ht⟩
  iexists K
  isplitr; · iexact HR
  isplitl [Hp]; · iexact Hp
  iexact Ht

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← BI.bigSep_univ_prod (fun ck : Dev nD × Fin 131 => iprop(∃ κ : ℕ, cellInv ER (rd m) κ (kcell ck))),
    BI.bigSep_congr (s := Finset.univ) (fun (c : Dev nD) _ => bigSep_sep' Finset.univ (fun k : Fin 131 => (atPos ER (kcell (c, k)) 0 ∅ 0 : sProp 𝕄)) (fun k => reached ER (kcell (c, k)) 0)),
    bigSep_sep', ← BI.bigSep_univ_prod (fun ck : Dev nD × Fin 131 => (reached ER (kcell ck) 0 : sProp 𝕄))]
  iintro ⟨HI, ⟨Hat, #HR⟩, Htok⟩
  ihave HK := (BI.bigSep_exists_pi Finset.univ (fun (ck : Dev nD × Fin 131) (κ : ℕ) => (cellInv ER (rd m) κ (kcell ck) : sProp 𝕄))) $$ HI
  icases HK with ⟨%K, #HI⟩
  ihave Htk := (toks_around (F := F)) $$ Htok
  iapply (with_records (P := records m K) fun c _ => G'_intro m K c)
  isplitr
  · unfold records; isplitl; · iexact HI
    iexact HR
  · iapply (Entails.of_eq (bigSep_sep' Finset.univ (pos0 (F := F)) payToks).symm)
    isplitl [Hat]; · unfold pos0; iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((BI.bigSep_mono fun c _ => core_alloc m c).trans (bigSep_fupd _ _)).trans (BI.fupd_mono (regroup m))

/-! ## What the devices are owed -/

theorem dsum_apply (D : R → CellTallies nD τ sig Unit) (g : GSem nD τ sig) : ∀ l : List R, l.Nodup → dsum D l g () = ∑ r ∈ l.toFinset, D r g ()
  | [], _ => rfl
  | r :: l, h => by
    rw [List.toFinset_cons, Finset.sum_insert (fun h' => (List.nodup_cons.mp h).1 (List.mem_toFinset.mp h')),
      ← dsum_apply D g l (List.nodup_cons.mp h).2, Nat.add_comm]
    rfl
theorem dsum_offs (D : R → CellTallies nD τ sig Unit) (g : GSem nD τ sig) : dsum D offs g () = ∑ r : R, D r g () := by
  rw [dsum_apply D g offs (by decide)]; congr 1

theorem owed_apply (d : Dev nD) (g : GSem nD τ sig) :
    O₀ d g () = ((∑ r : R, arecvD d r g ()) + ∑ r : R, recvD d r g ()) + ∑ r : R, barD d r g () := by
  rw [← dsum_offs, ← dsum_offs, ← dsum_offs]; rfl

theorem sum_all (d₀ : Dev nD) (r₀ : R) (n : ℕ) : (∑ d : Dev nD, ∑ r : R, if nb d r = d₀ ∧ r = r₀ then n else 0) = n := by
  rw [Finset.sum_comm, Finset.sum_eq_single r₀ (fun r _ hr => Finset.sum_eq_zero fun d _ => if_neg fun h => hr h.2) (fun h => absurd (Finset.mem_univ _) h),
    Finset.sum_eq_single (pv d₀ r₀) (fun d _ hd => if_neg fun h => hd (by rw [← h.1, pv_nb])) (fun h => absurd (Finset.mem_univ _) h),
    if_pos ⟨nb_pv d₀ r₀, rfl⟩]
theorem sum_bar (d₀ : Dev nD) : (∑ d : Dev nD, ∑ r : R, if nb d r = d₀ then 1 else 0) = 31 := by
  have h1 : ∀ r : R, (∑ d : Dev nD, if nb d r = d₀ then 1 else 0) = 1 := fun r =>
    (Finset.sum_eq_single (pv d₀ r) (fun d _ hd => if_neg fun h => hd (by rw [← h, pv_nb])) (fun h => absurd (Finset.mem_univ _) h)).trans (if_pos (nb_pv d₀ r))
  rw [Finset.sum_comm, Finset.sum_congr rfl fun r _ => h1 r]
  rfl

theorem tally_kind {g g' : GSem nD τ sig} (n : ℕ) (h : kind g.2 ≠ kind g'.2) : (tallyAt g () n : CellTallies nD τ sig Unit) g' () = 0 := by
  rw [tallyAt_apply, if_neg fun e => h (by rw [e.1])]

theorem credit_eq (g : GSem nD τ sig) (n : ℕ) (h : (∑ d : Dev nD, O₀ d g ()) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem launch_bar (c : Dev nD) : tallyOn (barCell c) (launchCredit (Pipeline.owing O₀) 0 (barCell c)) = (tallyAt (barCell c) () 31 : CellTallies nD τ sig Unit) := by
  refine credit_eq _ _ (Eq.trans (Finset.sum_congr rfl fun d _ => ?_) (sum_bar c))
  rw [owed_apply, Finset.sum_eq_zero fun r _ => tally_kind Na (by rw [kind_arecv, kind_bar]; exact nofun),
    Finset.sum_eq_zero fun r _ => tally_kind Nx (by rw [kind_recv, kind_bar]; exact nofun), Nat.zero_add, Nat.zero_add]
  refine Finset.sum_congr rfl fun r _ => ?_
  rw [tallyAt_apply]
  exact if_congr ⟨fun h => (congrArg (fun g : GSem nD τ sig => g.1.1) h.1).symm, fun h => ⟨by rw [h], rfl⟩⟩ rfl rfl

theorem launch_recv (c : Dev nD) (r₀ : R) :
    tallyOn (recvCell c r₀) (launchCredit (Pipeline.owing O₀) 0 (recvCell c r₀)) = (tallyAt (recvCell c r₀) () Nx : CellTallies nD τ sig Unit) := by
  refine credit_eq _ _ (Eq.trans (Finset.sum_congr rfl fun d _ => ?_) (sum_all c r₀ Nx))
  rw [owed_apply, Finset.sum_eq_zero fun r _ => tally_kind Na (by rw [kind_arecv, kind_recv]; exact nofun),
    Finset.sum_eq_zero (f := fun r => barD d r (recvCell c r₀) ()) fun r _ => tally_kind 1 (by rw [kind_recv, kind_bar]; exact nofun), Nat.zero_add, Nat.add_zero]
  refine Finset.sum_congr rfl fun r _ => ?_
  rw [tallyAt_apply]
  refine if_congr ⟨fun h => ⟨(congrArg (fun g : GSem nD τ sig => g.1.1) h.1).symm, ?_⟩, fun h => ⟨by rw [h.1, h.2], rfl⟩⟩ rfl rfl
  have e := congrArg (fun g : GSem nD τ sig => kind g.2) h.1
  dsimp only at e
  rw [kind_recv, kind_recv] at e
  exact (Kind.recv.inj e).symm

theorem launch_arecv (c : Dev nD) (r₀ : R) :
    tallyOn (arecvCell c r₀) (launchCredit (Pipeline.owing O₀) 0 (arecvCell c r₀)) = (tallyAt (arecvCell c r₀) () Na : CellTallies nD τ sig Unit) := by
  refine credit_eq _ _ (Eq.trans (Finset.sum_congr rfl fun d _ => ?_) (sum_all c r₀ Na))
  rw [owed_apply, Finset.sum_eq_zero (f := fun r => recvD d r (arecvCell c r₀) ()) fun r _ => tally_kind Nx (by rw [kind_arecv, kind_recv]; exact nofun),
    Finset.sum_eq_zero (f := fun r => barD d r (arecvCell c r₀) ()) fun r _ => tally_kind 1 (by rw [kind_arecv, kind_bar]; exact nofun), Nat.add_zero, Nat.add_zero]
  refine Finset.sum_congr rfl fun r _ => ?_
  rw [tallyAt_apply]
  refine if_congr ⟨fun h => ⟨(congrArg (fun g : GSem nD τ sig => g.1.1) h.1).symm, ?_⟩, fun h => ⟨by rw [h.1, h.2], rfl⟩⟩ rfl rfl
  have e := congrArg (fun g : GSem nD τ sig => kind g.2) h.1
  dsimp only at e
  rw [kind_arecv, kind_arecv] at e
  exact (Kind.arecv.inj e).symm

/-- The semaphores a device is owed on. -/
def owedSem : Unit ⊕ (R ⊕ R) → SemLoc sig
  | .inl _ => .reg barS
  | .inr (.inl r) => .dma (recvS r)
  | .inr (.inr r) => .dma (arecvS r)
theorem owedSem_inj : Function.Injective owedSem := by
  have h : ∀ x, (match kind (owedSem x) with | .recv r => .inr (.inl r) | .arecv r => .inr (.inr r) | _ => .inl ()) = x := by decide +kernel
  intro x y e
  rw [← h x, ← h y, e]

theorem creds (c : Dev nD) :
    (Pipeline.launchCred O₀ c : sProp 𝕄) ⊢ iprop(cred (tallyAt (barCell c) () 31)
      ∗ (bigSep Finset.univ fun r : R => cred (tallyAt (recvCell c r) () Nx)) ∗ (bigSep Finset.univ fun r : R => cred (tallyAt (arecvCell c r) () Na))) := by
  unfold Pipeline.launchCred
  refine BI.Entails.trans (BI.bigSep_subset (Finset.subset_univ (Finset.univ.map ⟨owedSem, owedSem_inj⟩))) ?_
  rw [BI.bigSep_map, BI.bigSep_univ_sum, BI.bigSep_univ_sum, BI.bigSep_univ_of_subsingleton (), ← launch_bar]
  simp only [← launch_recv, ← launch_arecv]
  exact BI.Entails.refl _

end Cert.Gather
-- ==== Proof.Launch.lean ====
/-
  The launch: the body run on every device between the staging of its arguments and the writing back of its result, and
  what every final state of the program therefore is.
-/
module

public import proofs.«01_k».proof.Proof.Cells
public import Idealize.ShloMosaic.Lib.Pipeline.CollectiveSegs

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What a device holds before and after the body -/

/-- The positions of the semaphores nothing uses. -/
def idle (c : Dev nD) : sProp 𝕄 :=
  iprop(atPos ER ((c : Thread nD τ), idleS 0) 0 ∅ 0 ∗ atPos ER ((c : Thread nD τ), idleS 1) 0 ∅ 0
    ∗ atPos ER ((c : Thread nD τ), idleS 2) 0 ∅ 0 ∗ atPos ER ((c : Thread nD τ), idleS 3) 0 ∅ 0)

def start (c : Dev nD) : sProp 𝕄 := iprop((∃ K, ctx m K) ∗ protoPre c ∗ idle c ∗ (wLoc c ↦{fullShare} wAt m c))
/-- Every semaphore of the exchange at zero. -/
def zeros (c : Dev nD) : sProp 𝕄 := bigSep Finset.univ fun k : Fin 131 => semVal (kcell (c, k)) 0
def Φ₀ (c : Dev nD) : sProp 𝕄 := iprop(start m c ∗ scratch c)
def Φ₁ (c : Dev nD) : sProp 𝕄 := iprop(zeros c ∗ (wLoc c ↦{fullShare} wAt m c) ∗ scratch c)

omit [FloatOps F] in
theorem proto_intro (c : Dev nD) :
    iprop(pos0 c ∗ payToks c ∗ cred (tallyAt (barCell c) () 31)
        ∗ (bigSep Finset.univ fun r : R => cred (tallyAt (recvCell c r) () Nx)) ∗ (bigSep Finset.univ fun r : R => cred (tallyAt (arecvCell c r) () Na)))
      ⊢ (iprop(protoPre c ∗ idle c) : sProp 𝕄) := by
  have hp : pos0 c = _ := cells_split fun sm => (atPos ER ((c : Thread nD τ), sm) 0 ∅ 0 : sProp 𝕄)
  rw [hp]
  unfold payToks tokWs protoPre idle recvP arecvP
  simp only [bigSep_sep']
  iintro ⟨⟨⟨P0, P1, P2, P3⟩, Pb, Pw0, Pw1, I0, I1, I2, I3⟩, ⟨T1, T2, T3, Tw⟩, Cb, Cr, Ca⟩
  isplitr [I0 I1 I2 I3]
  · isplitl [Cb Pb]
    · isplitl [Cb]; · iexact Cb
      iexact Pb
    isplitl [T1]; · iexact T1
    isplitl [T2 Cr P0 P1]
    · isplitl [T2]; · iexact T2
      isplitl [Cr]; · iexact Cr
      isplitl [P0]; · iexact P0
      iexact P1
    isplitl [T3 Ca P2 P3]
    · isplitl [T3]; · iexact T3
      isplitl [Ca]; · iexact Ca
      isplitl [P2]; · iexact P2
      iexact P3
    icases Tw with ⟨Tw0, Tw1⟩
    isplitl [Tw0]; · iexact Tw0
    isplitl [Tw1]; · iexact Tw1
    isplitl [Pw0]; · iexact Pw0
    iexact Pw1
  isplitl [I0]; · iexact I0
  isplitl [I1]; · iexact I1
  isplitl [I2]; · iexact I2
  iexact I3

/-- The position of a cell when its last round is over. -/
def posN (c : Dev nD) : sProp 𝕄 := bigSep Finset.univ fun k : Fin 131 => atPos ER (kcell (c, k)) (lastK (kind (csem k))) ∅ 0

omit [FloatOps F] in
theorem proto_end (c : Dev nD) : (iprop(protoPost c ∗ idle c) : sProp 𝕄) ⊢ posN c := by
  have hp : posN c = _ := cells_split fun sm => (atPos ER ((c : Thread nD τ), sm) (lastK (kind sm)) ∅ 0 : sProp 𝕄)
  rw [hp]
  unfold protoPost idle recvE arecvE
  simp only [bigSep_sep', kind_send, kind_recv, kind_asend, kind_arecv, kind_bar, kind_w, kind_idle]
  iintro ⟨⟨Pb, ⟨P0, P1⟩, ⟨P2, P3⟩, Pw0, Pw1⟩, I0, I1, I2, I3⟩
  isplitl [P0 P1 P2 P3]
  · isplitl [P0]; · iexact P0
    isplitl [P1]; · iexact P1
    isplitl [P2]; · iexact P2
    iexact P3
  isplitl [Pb]; · iexact Pb
  isplitl [Pw0]; · iexact Pw0
  isplitl [Pw1]; · iexact Pw1
  isplitl [I0]; · iexact I0
  isplitl [I1]; · iexact I1
  isplitl [I2]; · iexact I2
  iexact I3

/-- A cell over and done with gives its counter back, at zero. -/
theorem close_one (K : Dev nD × Fin 131 → ℕ) (c : Dev nD) (k : Fin 131) :
    iprop(ctx m K ∗ atPos ER (kcell (c, k)) (lastK (kind (csem k))) ∅ 0) ⊢ |={Set.univ}=> semVal (kcell (c, k)) 0 := by
  unfold ctx records
  iintro ⟨⟨⟨HI, -⟩, -⟩, Hat⟩
  ihave HI := (bigSep_at (fun ck => (cellInv ER (rd m) (K ck) (kcell ck) : sProp 𝕄)) (c, k)) $$ HI
  iapply (Rounds.cell_close ER (rd m) (Set.mem_univ (K (c, k))) (fun h => h) (R := lastK (kind (csem k)))
    (rd_none m (csem k) (lastK (kind (csem k))) (dutiesK_none (kind (csem k)))))
  isplitl [HI]; · iexact HI
  iexact Hat

theorem close_all (K : Dev nD × Fin 131 → ℕ) (c : Dev nD) : iprop(ctx m K ∗ posN c) ⊢ |={Set.univ}=> zeros c :=
  (with_records (P := ctx m K) (S := Finset.univ) (Φ := fun k : Fin 131 => atPos ER (kcell (c, k)) (lastK (kind (csem k))) ∅ 0)
    (Ψ := fun k => iprop(|={Set.univ}=> semVal (kcell (c, k)) 0)) fun k _ => close_one m K c k).trans (bigSep_fupd _ _)

/-! ## The body between the stages -/

def dats (_ : Fin 1) (c : Dev nD) : Pipeline.Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 2)).fetch t = true := by rw [fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

def bodyPost (c : Dev nD) : sProp 𝕄 :=
  iprop(Φ₁ m c ∗ (dats m 0 c).owesAt () t0_0.succ ∗ stg c cc0_stg0_0 (xstg m c) ∗ stg c cc0_stg1_0 (outAt m c))

theorem before_x (c : Dev nD) (d) : (dats m 0 c).before (0 : Fin 2) t0_0 d = xstg m c := by
  unfold Pipeline.Dat.before; rw [if_pos (fetch_0 t0_0)]; rfl

theorem sound_body (c : Dev nD) : bodyPre m c ⊢ run c (bodyProg (F := F)) (fun _ => bodyPost m c) := by
  unfold bodyPre Φ₀ start bodyProg run
  rw [wp_deviceId]
  iintro ⟨⟨⟨⟨%K, #Hc⟩, Hp, Hi, Hw⟩, Hs⟩, Ho, ⟨%d0, %g0, %hg0, Hx⟩, ⟨%d1, %g1, -, Hout⟩⟩
  have hx : g0 = xstg m c := hg0.trans (before_x m c d0)
  subst hx
  unfold Pipeline.Dat.owesAt Pipeline.owesWithin
  icases Ho with ⟨%W, -, Ho⟩
  iapply (wp_fupd frame (wpE (defs₀ (F := F)) 𝒱₀ (c : Thread nD τ) none) Set.univ _ (fun _ => bodyPost m c))
  iapply (run_body m K c (fun _ => iprop(|={Set.univ}=> bodyPost m c))) $$ [Ho Hp Hs Hw Hx Hout]
  · isplitr; · iexact Hc
    isplitl [Ho]; · unfold ow; iexists W; iexact Ho
    isplitl [Hp]; · iexact Hp
    isplitl [Hs]; · iexact Hs
    isplitl [Hw]; · iexact Hw
    isplitl [Hx]; · iexact Hx
    iexists g1; iexact Hout
  iintro ⟨Ho, Hp, Hs, Hw, Hx, Hout⟩
  ihave Hp := (proto_end (F := F) c) $$ [Hp Hi]
  · isplitl [Hp]; · iexact Hp
    iexact Hi
  imod (close_all m K c) $$ [Hp] with Hz
  · isplitr; · iexact Hc
    iexact Hp
  unfold ow
  icases Ho with ⟨%W', Ho⟩
  unfold bodyPost Φ₁ Pipeline.Dat.owesAt Pipeline.owesWithin
  rw [show (dats m 0 c).owed t0_0.succ = 0 from rfl]
  imodintro
  isplitl [Hz Hw Hs]
  · isplitl [Hz]; · iexact Hz
    isplitl [Hw]; · iexact Hw
    iexact Hs
  isplitl [Ho]
  · iexists W'
    isplitr; · ipureintro; exact fun _ _ => Or.inl trivial
    iexact Ho
  isplitl [Hx]
  · iexists _; isplitr; · (ipureintro; rfl)
    iexact Hx
  iexists _; isplitr; · (ipureintro; rfl)
  iexact Hout

set_option maxRecDepth 100000 in
theorem body_obligation (c : Dev nD) : Pipeline.BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ (c : Thread nD τ) none) Set.univ
    (cc0_body (F := F) xM (Memref.isWhole_whole _) wM (Memref.isWhole_whole _) oM (Memref.isWhole_whole _)
      bM (Memref.isWhole_whole _) gM (Memref.isWhole_whole _) vM (Memref.isWhole_whole _) aM (Memref.isWhole_whole _)
      cc0_scratch4 cc0_scratch5 cc0_scratch6 cc0_scratch7 cc0_scratch8) (fun _ => bodyPost m c)
  rw [body_eq]
  exact sound_body m c

/-! ## The side conditions of the launch -/

theorem ownSemFacts : Pipeline.OwnSemFacts cfg0.spec osem where
  isScoped := by decide +kernel
  inj := fun k k' h => Fin.castSucc_injective _ (csem_inj h)
  disj := by decide +kernel

theorem share_eq (c : Dev nD) (w : Fin cfg0.W) : (dats m 0 c).share w = fullShare := by unfold Pipeline.Dat.share; split <;> rfl

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨Hw, Hlev, Hcr, -, ⟨%K, HR, Hp, Ht⟩⟩
  ihave Hcr := (creds (F := F) c) $$ Hcr
  ihave H := (proto_intro (F := F) c) $$ [Hp Ht Hcr]
  · isplitl [Hp]; · iexact Hp
    isplitl [Ht]; · iexact Ht
    iexact Hcr
  icases H with ⟨Hp, Hi⟩
  imodintro
  unfold start
  isplitl
  · isplitl [HR Hlev]
    · iexists K
      unfold ctx
      isplitl [HR]; · iexact HR
      iexact Hlev
    isplitl [Hp]; · iexact Hp
    isplitl [Hi]; · iexact Hi
    iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What is left at the end besides the arrays of the result. -/
def fin (c : Dev nD) : sProp 𝕄 := iprop(unscopedSems0 c ∗ (wLoc c ↦{fullShare} wAt m c))

theorem phi1_exit (c : Dev nD) :
    (dats m 0 c).Φ (Fin.last cfg0.N) ⊢ iprop(fin m c ∗ Pipeline.ownSems0 osem c ∗ Pipeline.scopedRest cfg0.spec c) := by
  rw [show (dats m 0 c).Φ (Fin.last cfg0.N) = Φ₁ m c from rfl, scopedRest0_eq]
  unfold Φ₁ fin zeros
  rw [← sems0_eq]
  unfold scratch
  iintro ⟨⟨Hos, Hus⟩, Hw, Hs⟩
  isplitl [Hus Hw]
  · isplitl [Hus]; · iexact Hus
    iexact Hw
  isplitl [Hos]; · iexact Hos
  iexact Hs

theorem above_owed (c : Dev nD) (t) : Above 0 ((dats m 0 c).owed t) := by
  rcases t with ⟨_ | _, ht⟩
  · exact above_Ob c offs
  · exact Above.zero 0

theorem waits (c : Dev nD) : (levAts L lv : sProp 𝕄) ⊢ Pipeline.cellsWaits cfgs (dats m) () 0 c :=
  Pipeline.cellsWaits_intro cfgs (dats m) () 0 c fun w s t =>
    mayWait c _ 0 _ (above_owed m c t) (by fin_cases w <;> fin_cases s <;> decide)

/-! ## The run -/

def finalA (c : Dev nD) (w : Fin cfg0.W) : Buf (Elt F) ((cfg0.win w).arr.view.loc (c : Thread nD τ)) := (dats m 0 c).arrAt w cfg0.N

/-- What a final state is. -/
def Final (s : MemSt nD τ sig (Elt F)) : Prop :=
  (∀ c : Dev nD, (∀ w : Fin cfg0.W, s.mem ((cfg0.win w).arr.view.loc (c : Thread nD τ)) = finalA m c w) ∧ s.mem (wLoc c) = wAt m c)
    ∧ s.sem = fun _ => 0

theorem fin_read (c : Dev nD) (s' : Phys nD τ sig (Elt F)) :
    iprop(fin m c ∗ emp ∗ SI s')
      ⊢ |={Set.univ}=> iprop(⌜(∀ sm : SemLoc sig, sm.isScoped .tc = false → s'.mem.sem ((c.tc : Thread nD τ), sm) = 0) ∧ s'.mem.mem (wLoc c) = wAt m c⌝ ∗ SI s') := by
  unfold fin
  iintro ⟨⟨Hu, Hw⟩, -, HSI⟩
  ihave H := (Idealize.ShloMosaic.pointsTo_read_all (Finset.univ : Finset Unit) (fun _ => wLoc c) (fun _ => wAt m c) s') $$ [Hw HSI]
  · isplitl [Hw]
    · iapply (Entails.of_eq (BI.bigSep_univ_of_subsingleton () (Φ := fun _ : Unit => (wLoc c ↦{fullShare} wAt m c : sProp 𝕄))).symm)
      iexact Hw
    iexact HSI
  icases H with ⟨%hw, HSI⟩
  imod (Pipeline.unscopedSems0_read (X := unscopedSems0 c) (c := c) fupd_intro s') $$ [Hu HSI] with ⟨%hs, HSI⟩
  · isplitl [Hu] <;> iassumption
  imodintro
  isplitr; · ipureintro; exact ⟨hs, hw () (Finset.mem_univ _)⟩
  iexact HSI

set_option maxRecDepth 100000 in
/-- From any memory whose counters are at zero: every weakly fair execution ends, and every final state is as said. -/
theorem run_main (ρ : Dev nD → PrngReg) : θ_run defs (onTc (τ := τ) (main (F := F))) ⟨m, fun _ => 0, ρ⟩ (fun r => Final m r.2) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fin m) (Z := fun _ => iprop(emp))
    (hX := start_intro m ρ) (hin := phi0_intro m) (hout := phi1_exit m)
    (QY := fun c s => (∀ sm : SemLoc sig, sm.isScoped .tc = false → s.sem ((c.tc : Thread nD τ), sm) = 0) ∧ s.mem (wLoc c) = wAt m c)
    (hY := fun c s' => fin_read m c s')
    (hQ := fun _ h hs => ⟨fun c => ⟨(h c).1, (h c).2.2.2⟩, sem_eq_zero hs fun c => (h c).2.2.1⟩)

/-- `x` ends as it began. -/
theorem finalA_x (c : Dev nD) : finalA m c (0 : Fin 2) = m ((c : Thread nD τ).loc main_arg0) :=
  (dats (F := F) m 0 c).arrAt_in (0 : Fin 2) rfl _

end Cert.Gather
-- ==== Proof.Frames.lean ====
/-
  The frames: every run ends, the arguments end as they began, every semaphore ends at zero.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

set_option maxRecDepth 100000

noncomputable section

namespace Cert.Gather

open Idealize.ShloMosaic Idealize.ShloMosaic.TcCoe Idealize.SL.Sem

/-- The arguments and the counters of a final state. -/
theorem Final.frame {F : FTy → Type} [FloatOps F] {m : (ℓ : Loc KernelIdeal.nD KernelIdeal.τ KernelIdeal.sig) → Buf (Elt F) ℓ}
    {s : MemSt KernelIdeal.nD KernelIdeal.τ KernelIdeal.sig (Elt F)} (h : Final m s) :
    (∀ c : Dev KernelIdeal.nD, s.mem ((c.tc : Thread KernelIdeal.nD KernelIdeal.τ).loc KernelIdeal.main_arg0) = m ((c.tc : Thread KernelIdeal.nD KernelIdeal.τ).loc KernelIdeal.main_arg0)
      ∧ s.mem ((c.tc : Thread KernelIdeal.nD KernelIdeal.τ).loc KernelIdeal.main_arg1) = m ((c.tc : Thread KernelIdeal.nD KernelIdeal.τ).loc KernelIdeal.main_arg1))
      ∧ s.sem = fun _ => 0 :=
  ⟨fun c => ⟨((h.1 c).1 (0 : Fin 2)).trans (finalA_x m c), (h.1 c).2⟩, h.2⟩

attribute [local instance] Cert.Kernel.Gen.facts Cert.KernelIdeal.Gen.facts Cert.ReferenceIdeal.Gen.facts

theorem frame_kernelIdeal : Cert.quiescent_KernelIdeal (hKernelIdeal := Cert.KernelIdeal.Gen.facts) := fun m ρ _ =>
  (θ_run Cert.KernelIdeal.defs _ _).mono (fun _ h => h.frame) (run_main (F := Ideal) m ρ)

/-- The printed program and its ideal reading have one body table. -/
theorem defs_eq : Cert.Kernel.defs (F := Bits) = Cert.KernelIdeal.defs (F := Bits) :=
  congrArg (fun d => Pipeline.defs Cert.KernelIdeal.pcfgs d)
    (congrArg Defs.onTc (funext fun l => match l with
      | 0 => rfl
      | ⟨_ + 1, h⟩ => absurd h (Nat.not_lt.2 (Nat.le_add_left _ _))) :
      Cert.Kernel.defs₀ (F := Bits) = Cert.KernelIdeal.defs₀ (F := Bits))

theorem run_kernel (m : (ℓ : Loc Kernel.nD Kernel.τ Kernel.sig) → Buf (Elt Bits) ℓ) (ρ : Dev Kernel.nD → PrngReg) :
    θ_run Cert.Kernel.defs (onTc Cert.Kernel.main) ⟨m, fun _ => 0, ρ⟩ (fun r => Final m r.2) := by
  rw [defs_eq]
  exact run_main (F := Bits) m ρ

theorem frame_kernel : Cert.quiescent_Kernel (hKernel := Cert.Kernel.Gen.facts) := fun m ρ _ =>
  (θ_run Cert.Kernel.defs _ _).mono (fun _ h => Final.frame (F := Bits) (m := m) h) (run_kernel m ρ)

theorem frame_referenceIdeal : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Gather

end
-- ==== Proof.Value.lean ====
/-
  The kernel's arithmetic over the extended reals, at one element: the blocked product is the whole
  product, a maximum of maxima is one maximum, and the scaling is the reference's.
-/
module

public import proofs.«01_k».proof.Proof.Launch
public import Idealize.ShloMosaic.Lib.Layout
public import Idealize.ShloMosaic.Lib.MatmulPlain
public import Idealize.ShloMosaic.Lib.ValueIdx
public import Idealize.ShloMosaic.Lib.ValueLayout
public import Idealize.ShloMosaic.PureOps.Ideal.Laws

@[expose] public section

set_option maxRecDepth 100000

noncomputable section

namespace Cert.Gather

open Cert.KernelIdeal Cert.KernelIdeal.Gen
open Idealize.ShloMosaic Idealize.ShloMosaic.TcCoe Idealize.ShloMosaic.ValueIdx Idealize.SL.Sem
open scoped BigOperators

/-! ## Maxima -/

theorem negInf : Ideal.ofBits .f32 0xFF800000#32 = ⊥ := by simp [Ideal.ofBits, Ideal.ieee]

/-- A fold by maximum from −∞ over all of a shape is the supremum. -/
theorem fold_max_univ {ι : Type} [Fintype ι] (x : ι → EReal) :
    Finset.univ.fold (FloatOps.maximumf (F := Ideal) (φ := .f32)) (⊥ : EReal) x = ⨆ i, x i := by
  rw [← Finset.sup_univ_eq_iSup]; rfl

/-- A maximum over every axis but axes of extent one is the supremum over all entries. -/
theorem multiReduction_max {s t : Shape} {axes : List (Fin s.rank)} (h : s.Reduces axes t) (ht : ∀ b, t.size b = 1)
    (x : FVec Ideal s .f32) (hφ : FKind.Formats .f32) (hacc : (0xFF800000#32 : BitVec 32) = FKind.maximumf.neutral .f32 hφ) (j : t.Idx) :
    multiReduction .maximumf axes t x 0xFF800000#32 h hφ hacc j = ⨆ i, x i := by
  refine (multiReduction_maximumf_eq_fold x _ h hφ hacc j).trans ?_
  rw [Finset.filter_true_of_mem fun i _ => funext fun b => Fin.ext (by
    have := (h.drop i b).isLt; have := (j b).isLt; have := ht b; omega)]
  rw [show (FloatOps.ofBits (F := Ideal) .f32 0xFF800000#32) = (⊥ : EReal) from negInf]
  exact fold_max_univ x

/-- The supremum does not see a change of shape. -/
theorem iSup_shapeCast {s t : Shape} (x : s.Idx → EReal) (h : s.ShapeCasts t) : ⨆ j, shapeCast t x h j = ⨆ i, x i :=
  (Shape.reshapeEquiv h).iSup_comp (g := x)

/-- An entry extracted from a recast constant. -/
theorem extractAt_shapeCast {α : Type} {s t : Shape} (v : s.Idx → α) (h : s.ShapeCasts t) (pos : Fin t.rank → ℕ) (hp : ∀ a, pos a < t.size a)
    (e : α) (hv : ∀ j, v j = e) : extractAt pos (shapeCast t v h) hp = e := hv _

theorem shapeCast_broadcast {α : Type} {s t : Shape} (e : α) (h : s.ShapeCasts t) (i : t.Idx) : shapeCast t (broadcast s e) h i = e := rfl

theorem rowMax_apply (y : FVec Ideal S128x2048 .f32) (i : S1x1x128.Idx) : rowMax y i = ⨆ p, y p := by
  unfold rowMax
  rw [shapeCast_broadcast]
  refine extractAt_shapeCast _ _ _ _ _ fun j => ?_
  refine (multiReduction_max reduces_S1x128x2048_S1 (by decide) _ _ _ j).trans ?_
  exact iSup_shapeCast y shapeCasts_S128x2048_S1x128x2048

/-- The supremum of a table of maxima. -/
def top (A : Vec Ideal S32x1x128 .f32) : EReal := ⨆ i : S32x1x128.Idx, A i

/-- The scale: the supremum of a table over 127. -/
theorem scale_apply (A : Vec Ideal S32x1x128 .f32) :
    k0_pay12 (F := Ideal) A = Ideal.div (top A) (Ideal.ofBits .f32 0x42FE0000#32) := by
  refine congrArg (Ideal.div · (Ideal.ofBits .f32 0x42FE0000#32)) ?_
  refine extractAt_shapeCast _ _ _ _ _ fun j => ?_
  refine (multiReduction_max reduces_S1x32x1x128_S1 (by decide) _ _ _ j).trans ?_
  exact iSup_shapeCast A shapeCasts_S32x1x128_S1x32x1x128

/-- An entry scaled, rounded, clipped and scaled back. -/
def quant (y s : EReal) : EReal :=
  min (Ideal.ofBits .f32 0x42FE0000#32) (max (Ideal.ofBits .f32 0xC2FE0000#32) (FloatOps.roundeven (F := Ideal) (φ := .f32) (Ideal.div y s))) * s

theorem finish_apply (y : FVec Ideal S128x2048 .f32) (A : Vec Ideal S32x1x128 .f32) (i : S128x2048.Idx) :
    finish y A i = quant (y i) (Ideal.div (top A) (Ideal.ofBits .f32 0x42FE0000#32)) := by
  rw [← scale_apply A]; rfl

/-! ## The product, block by block -/

theorem accum_apply (a : FVec Ideal S128x2048 .f32) (w : Vec Ideal S1x512x2048 .f32) (x : Vec Ideal S128x512 .bf16) (r : Fin 128) (n : Fin 2048) :
    accum a w x (ix2 r n) = a (ix2 r n) + ∑ k : Fin 512, x (ix2 r k) * w (ix3 (0 : Fin 1) k n) := by
  refine congrArg (a (ix2 r n) + ·) ?_
  refine (Ideal.matmul_plain_apply (M := 128) (K := 512) (N := 2048) none (extf .f32 x bitsLt_bf16_f32)
    (shapeCast S512x2048 w shapeCasts_S1x512x2048_S512x2048) (constant S128x2048 .f32 0x00000000#32) r n).trans ?_
  rw [constant_apply, Ideal.ofBits_zero_f32, zero_add]
  refine Finset.sum_congr rfl fun k _ => ?_
  rw [extf_apply]
  exact congrArg (x (ix2 r k) * ·) (shapeCast_1ab_ab_apply w _ k n)

variable {F : FTy → Type} [FloatOps F] (m : (ℓ : Loc nD τ sig) → Buf (Elt F) ℓ)

/-- The staged block of `x` is the whole of it. -/
theorem xstg_apply (c : Dev nD) (i : S4096x128.Idx) : xstg m c i = m ((c : Thread nD τ).loc main_arg0) i := by
  refine congrArg (m ((c : Thread nD τ).loc main_arg0)) ?_
  funext a
  refine Fin.ext ?_
  fin_cases a
  · exact Pipeline.Window.rect_emb_val_of_index_zero win0_0 (0 : Fin 1) (0 : Fin 2) (by decide +kernel) i
  · exact Pipeline.Window.rect_emb_val_of_index_zero win0_0 (0 : Fin 1) (1 : Fin 2) (by decide +kernel) i

theorem gBlk_apply (c : Dev nD) (j : Fin 8) (r : Fin 128) (k : Fin 512) :
    gBlk m c j (ix2 r k) = gAt m c (ix2 r (⟨512 * j.val + k.val, by omega⟩ : Fin 4096)) := by
  show gAt m c ((gRect j).idx (ix2 r k)) = _
  congr 1
  funext a
  refine Fin.ext ?_
  fin_cases a
  · show 0 + 1 * r.val = r.val; omega
  · show 512 * j.val + 1 * k.val = 512 * j.val + k.val; omega

theorem wBlk_apply (c : Dev nD) (j : Fin 8) (k : Fin 512) (n : Fin 2048) :
    wBlk m c j (ix3 (0 : Fin 1) k n) = wAt m c (ix2 (⟨512 * j.val + k.val, by omega⟩ : Fin 4096) n) := by
  show wAt m c (vIx j ((vRect (half j)).idx (ix3 (0 : Fin 1) k n))) = _
  congr 1
  funext a
  refine Fin.ext ?_
  fin_cases a
  · show 512 * j.val + (0 + 1 * k.val) = 512 * j.val + k.val; omega
  · show 0 + 1 * n.val = n.val; omega

/-- The row of the whole product under row `r` of device `c`'s block. -/
def rowAt (c : Dev nD) (r : Fin 128) : Fin 4096 := ⟨128 * c.val + r.val, by have hc := c.isLt; change c.val < 32 at hc; omega⟩

/-- A sum over 4096 terms is the sum of its eight blocks of 512. -/
theorem sum_blocks (f : Fin 4096 → EReal) : ∑ k, f k = ∑ j : Fin 8, ∑ k : Fin 512, f ⟨512 * j.val + k.val, by omega⟩ := by
  rw [← Fintype.sum_prod_type']
  refine (Equiv.sum_comp (finProdFinEquiv (m := 8) (n := 512)) f).symm.trans (Finset.sum_congr rfl fun p _ => congrArg f (Fin.ext ?_))
  exact Nat.add_comm _ _

section Whole

variable (μ : (ℓ : Loc nD τ sig) → Buf (Elt Ideal) ℓ) (X : (⟨2, ![4096, 4096]⟩ : Shape).Idx → EReal) (W : S4096x2048.Idx → EReal)

/-- The arrays on each device are its part of the whole arrays. -/
def Holds : Prop := ∀ c : Dev nD,
  μ ((c : Thread nD τ).loc main_arg0) = Layout.block ⟨2, ![4096, 128]⟩ ⟨2, ![4096, 4096]⟩ 1 32 c X
    ∧ μ ((c : Thread nD τ).loc main_arg1) = W

/-- The whole product clipped below at zero, at one entry. -/
def prodAt (r : Fin 4096) (n : Fin 2048) : EReal := max (∑ k : Fin 4096, X (ix2 r k) * W (ix2 k n)) 0

variable {μ X W}

theorem gAt_whole (h : Holds μ X W) (c : Dev nD) (r : Fin 128) (k : Fin 4096) : gAt μ c (ix2 r k) = X (ix2 (rowAt c r) k) := by
  show bAt μ (devAt (k.val / 128)) (tileIx c (ix2 r k)) = _
  have hb : ∀ d i, bAt μ d i = μ ((d : Thread nD τ).loc main_arg0) i := fun d i => by
    rw [← xstg_apply μ d i]; unfold bAt k0_pay2; simp only [shapeCast_self]; rfl
  rw [hb, (h _).1, Layout.block_apply]
  congr 1
  funext a
  refine Fin.ext ?_
  fin_cases a
  · rfl
  · show k.val / 128 % 32 * 128 + k.val % 128 = k.val
    omega

theorem yAt_whole (h : Holds μ X W) (c : Dev nD) (r : Fin 128) (n : Fin 2048) : yAt μ c (ix2 r n) = prodAt X W (rowAt c r) n := by
  have hs : ∀ j : Fin 8, ∑ k : Fin 512, gBlk μ c j (ix2 r k) * wBlk μ c j (ix3 (0 : Fin 1) k n)
      = ∑ k : Fin 512, X (ix2 (rowAt c r) ⟨512 * j.val + k.val, by omega⟩) * W (ix2 ⟨512 * j.val + k.val, by omega⟩ n) := fun j =>
    Finset.sum_congr rfl fun k _ => by
      rw [gBlk_apply, wBlk_apply, gAt_whole h, show wAt μ c = W from (h c).2]
  have hz : (accZero (F := Ideal)) (ix2 r n) = (0 : EReal) := Ideal.ofBits_zero_f32
  show max (accum _ _ _ (ix2 r n)) (Ideal.ofBits .f32 0x00000000#32) = _
  simp only [accum_apply]
  rw [Ideal.ofBits_zero_f32, hz, zero_add]
  simp only [hs]
  unfold prodAt
  rw [sum_blocks (fun k => X (ix2 (rowAt c r) k) * W (ix2 k n)), Fin.sum_univ_eight]

variable (X W) in
/-- The greatest entry of the clipped product. -/
def greatest : EReal := ⨆ i : S4096x2048.Idx, prodAt X W (i 0) (i 1)

theorem devAt_all : ∀ c d : Dev nD, ∃ n : Fin 32, devAt (c.val + 32 - n.val) = d := by decide +kernel

/-- The greatest of the maxima gathered is the greatest entry of the whole. -/
theorem top_aAt (h : Holds μ X W) (c : Dev nD) : top (aAt μ c) = greatest X W := by
  have e : top (aAt μ c) = ⨆ i : S32x1x128.Idx, ⨆ p, yAt μ (devAt (c.val + 32 - (i 0).val)) p :=
    iSup_congr fun i => (aAt_apply μ c i).trans (rowMax_apply _ _)
  rw [e]
  apply le_antisymm
  · refine iSup_le fun i => iSup_le fun p => ?_
    refine le_trans (le_of_eq ((congrArg (yAt μ _) (eq_ix2 p)).trans (yAt_whole h _ (p 0) (p 1)))) ?_
    exact le_iSup (fun i : S4096x2048.Idx => prodAt X W (i 0) (i 1)) (ix2 (rowAt _ (p 0)) (p 1))
  · refine iSup_le fun q => ?_
    have hq := (q 0).isLt
    change (q 0).val < 4096 at hq
    obtain ⟨t, ht⟩ := devAt_all c ⟨(q 0).val / 128, by show _ < 32; omega⟩
    refine le_trans ?_ (le_iSup (fun i : S32x1x128.Idx => ⨆ p, yAt μ (devAt (c.val + 32 - (i 0).val)) p) (ix3 t (0 : Fin 1) (0 : Fin 128)))
    show _ ≤ ⨆ p, yAt μ (devAt (c.val + 32 - t.val)) p
    rw [ht]
    refine le_trans (le_of_eq ?_) (le_iSup (fun p => yAt μ _ p) (ix2 (⟨(q 0).val % 128, by omega⟩ : Fin 128) (q 1)))
    refine Eq.trans ?_ (yAt_whole h _ _ _).symm
    refine congrArg (prodAt X W · (q 1)) (Fin.ext ?_)
    show (q 0).val = 128 * ((q 0).val / 128) + (q 0).val % 128
    omega

theorem outAt_whole (h : Holds μ X W) (c : Dev nD) (r : Fin 128) (n : Fin 2048) :
    outAt μ c (ix2 r n) = quant (prodAt X W (rowAt c r) n) (Ideal.div (greatest X W) (Ideal.ofBits .f32 0x42FE0000#32)) := by
  refine (finish_apply (yAt μ c) (aAt μ c) (ix2 r n)).trans ?_
  rw [top_aAt h, yAt_whole h]

end Whole

end Cert.Gather

end
-- ==== Proof.Result.lean ====
/-
  The reference's result at one element, and the kernel's result the same.
-/
module

public import proofs.«01_k».proof.Proof.Value
public import proofs.«01_k».proof.Proof.Frames
public import Idealize.ShloMosaic.Lib.StackMember
public import Idealize.ShloMosaic.Lib.Pipeline.ValueKit.Geometry

@[expose] public section

set_option maxRecDepth 100000

noncomputable section

namespace Cert.Gather

open Idealize.ShloMosaic Idealize.ShloMosaic.TcCoe Idealize.ShloMosaic.ValueIdx Idealize.SL.Sem
open scoped BigOperators

/-! ## What the kernel leaves in its result -/

section Kernel

open Cert.KernelIdeal Cert.KernelIdeal.Gen

variable {F : FTy → Type} [FloatOps F] (m : (ℓ : Loc nD τ sig) → Buf (Elt F) ℓ)

theorem finalA_out (c : Dev nD) : finalA m c (1 : Fin 2) = outAt m c :=
  (dats (F := F) m 0 c).arrAt_eq_of_after_last (1 : Fin 2) t0_0 (by decide +kernel) (outAt m c) (fun j => rfl)

end Kernel

/-! ## The reference -/

section Reference

open Cert.ReferenceIdeal Cert.ReferenceIdeal.Gen

variable (X : FVec Ideal S4096x4096 .f32) (W : FVec Ideal S4096x2048 .f32)

/-- The product clipped below at zero. -/
def refY : FVec Ideal S4096x2048 .f32 :=
  maximumf (Host.dotGeneral dot_S4096x4096_S4096x2048_S4096x2048_1_0_0_1_n_n none X W)
    (broadcastInDim S4096x2048 ![] bcast_S_S4096x2048 (constant S_ .f32 0x00000000#32))
/-- The scale. -/
def refS : FVec Ideal S_ .f32 :=
  Host.divf (Host.reduce FloatOps.maximumf (Host.absf (refY X W)) (constant S_ .f32 0xFF800000#32) reducesTo_S4096x2048_S_d0_1 h_S_)
    (constant S_ .f32 0x42FE0000#32)
/-- The result. -/
def refOut : FVec Ideal S4096x2048 .f32 :=
  mulf (minimumf (broadcastInDim S4096x2048 ![] bcast_S_S4096x2048 (id (constant S_ .f32 0x42FE0000#32)))
    (maximumf (broadcastInDim S4096x2048 ![] bcast_S_S4096x2048 (id (constant S_ .f32 0xC2FE0000#32)))
      (Host.roundeven (Host.divf (refY X W) (broadcastInDim S4096x2048 ![] bcast_S_S4096x2048 (refS X W))))))
    (broadcastInDim S4096x2048 ![] bcast_S_S4096x2048 (refS X W))

theorem refY_apply (r : Fin 4096) (n : Fin 2048) : refY X W (ix2 r n) = prodAt X W r n := by
  have h := StackMember.dotGeneral_plain_apply (m := 4096) (k := 4096) (n := 2048) none X W r n
  show max (Host.dotGeneral dot_S4096x4096_S4096x2048_S4096x2048_1_0_0_1_n_n none X W (ix2 r n)) (Ideal.ofBits .f32 0x00000000#32) = _
  rw [Ideal.ofBits_zero_f32]
  exact congrArg (max · 0) h

theorem prodAt_nonneg (r : Fin 4096) (n : Fin 2048) : 0 ≤ prodAt X W r n := le_max_right _ _

/-- The reference's greatest magnitude is the greatest entry: no entry is negative. -/
theorem refMax_apply (j : S_.Idx) :
    Host.reduce FloatOps.maximumf (Host.absf (refY X W)) (constant S_ .f32 0xFF800000#32) reducesTo_S4096x2048_S_d0_1 h_S_ j = greatest X W := by
  rw [Host.reduce_eq_fold, Finset.filter_true_of_mem fun i _ => funext fun b => Fin.elim0 b]
  rw [show (constant (F := Ideal) S_ .f32 0xFF800000#32) (Shape.Idx.first h_S_) = (⊥ : EReal) from negInf]
  refine (fold_max_univ _).trans (iSup_congr fun i => ?_)
  have e : refY X W i = prodAt X W (i 0) (i 1) := (congrArg (refY X W) (eq_ix2 i)).trans (refY_apply X W (i 0) (i 1))
  show max (refY X W i) (-(refY X W i)) = _
  rw [e]
  have h0 := prodAt_nonneg X W (i 0) (i 1)
  exact max_eq_left (le_trans (EReal.neg_le_zero.2 h0) h0)

theorem refOut_apply (r : Fin 4096) (n : Fin 2048) :
    refOut X W (ix2 r n) = quant (prodAt X W r n) (Ideal.div (greatest X W) (Ideal.ofBits .f32 0x42FE0000#32)) := by
  have hs : ∀ j, refS X W j = Ideal.div (greatest X W) (Ideal.ofBits .f32 0x42FE0000#32) := fun j =>
    congrArg (Ideal.div · (Ideal.ofBits .f32 0x42FE0000#32)) (refMax_apply X W j)
  rw [← refY_apply X W r n, ← hs (Shape.Idx.first h_S_)]
  rfl

end Reference

attribute [local instance] Cert.Kernel.Gen.facts Cert.KernelIdeal.Gen.facts Cert.ReferenceIdeal.Gen.facts

/-- The kernel's blocks are the blocks of the reference's result. -/
theorem algebraic : Cert.algebraic_KernelIdeal_ReferenceIdeal (hKernelIdeal := Cert.KernelIdeal.Gen.facts)
    (hReferenceIdeal := Cert.ReferenceIdeal.Gen.facts) := fun m g m' g' _ hm => by
  refine ⟨refOut (m' (((0 : Dev Cert.ReferenceIdeal.nD) : Thread Cert.ReferenceIdeal.nD Cert.ReferenceIdeal.τ).loc Cert.ReferenceIdeal.main_arg0))
    (m' (((0 : Dev Cert.ReferenceIdeal.nD) : Thread Cert.ReferenceIdeal.nD Cert.ReferenceIdeal.τ).loc Cert.ReferenceIdeal.main_arg1)), ?_, ?_⟩
  · refine (θ_run Cert.KernelIdeal.defs _ _).mono (fun r h c => ⟨?_, (h.frame.1 c).1, (h.frame.1 c).2⟩) (run_main (F := Ideal) m g)
    refine ((h.1 c).1 (1 : Fin 2)).trans ((finalA_out m c).trans ?_)
    funext i
    refine (congrArg (outAt m c) (eq_ix2 i)).trans ((outAt_whole (fun c => hm c) c (i 0) (i 1)).trans ?_)
    refine (refOut_apply _ _ (rowAt c (i 0)) (i 1)).symm.trans ?_
    rw [Layout.block_apply]
    congr 1
    funext a
    refine Fin.ext ?_
    fin_cases a
    · show 128 * c.val + (i 0).val = c.val * 128 + (i 0).val
      omega
    · rfl
  · exact (θ_run Cert.ReferenceIdeal.defs _ _).mono (fun r h => ⟨(h 0).1, (h 0).2⟩) (Cert.ReferenceIdeal.Value.run (F := Ideal) m' g')

end Cert.Gather

end
-- ==== Proof.lean ====
/-
  The certificate's theorem: the three frames (Proof/Frames.lean), that the ideal program is the kernel (no
  rewrite was made), and that kernel and reference compute the same function (Proof/Result.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Result
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.Gather.frame_kernel, Cert.Gather.frame_kernelIdeal, Cert.Gather.frame_referenceIdeal, trivial, Cert.Gather.algebraic⟩

end Cert.Proof

end
